-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  IdealRules.named_const.Statement Cert.KernelIdeal.κ "qscale" .f32 0x3E0293EE#32 (((Real.log 2)⁻¹ * (Real.sqrt 128)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  IdealRules.named_const.Statement Cert.Kernel3Ideal.κ "mask" .f32 0xF149F2CA#32 ⊥

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v138) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
-- ==== Pre_finite.lean ====
abbrev S16384x12288 : Shape := ⟨2, ![16384, 12288]⟩
abbrev S1x4x3072 : Shape := ⟨3, ![1, 4, 3072]⟩
abbrev S16384x128 : Shape := ⟨2, ![16384, 128]⟩
abbrev S1x128 : Shape := ⟨2, ![1, 128]⟩
abbrev S16384x4096 : Shape := ⟨2, ![16384, 4096]⟩
abbrev S_ : Shape := ⟨0, ![]⟩

class Facts : Prop where
  slices_S16384x12288_S16384x4096_0_4096 : S16384x12288.Slices ![0, 4096] S16384x4096
  bitsLt_bf16_f32 : FTy.bits .bf16 < FTy.bits .f32
  bcast_S_S16384x4096 : S_.BroadcastsInDim S16384x4096 (![] : Fin 0 → Fin S16384x4096.rank)

variable [Facts]

def fn {F : FTy → Type} [FloatOps F] (main_arg0 : FVec F S16384x12288 .bf16) (main_arg1 : FVec F S1x4x3072 .f32) (main_arg2 : FVec F S16384x128 .f32) (main_arg3 : FVec F S1x128 .f32) : IVec S16384x4096 1 :=
  let main_v0 : FVec F S16384x4096 .bf16 := (extractStridedSlice S16384x4096 ![0, 4096] · slices_S16384x12288_S16384x4096_0_4096) main_arg0
  let main_v1 : FVec F S16384x4096 .f32 := (extf .f32 · bitsLt_bf16_f32) main_v0
  let main_v2 : FVec F S16384x4096 .f32 := Host.absf main_v1
  let main_cst : FVec F S_ .f32 := constant S_ .f32 0x7F800000#32
  let main_v3 : FVec F S16384x4096 .f32 := broadcastInDim S16384x4096 ![] bcast_S_S16384x4096 main_cst
  let main_v4 : IVec S16384x4096 1 := cmpf .olt main_v2 main_v3
  main_v4
-- ==== Kernel.lean ====
abbrev S8x2048x2048 : Shape := ⟨3, ![8, 2048, 2048]⟩
abbrev S1x2048 : Shape := ⟨2, ![1, 2048]⟩
abbrev S1x2048x12304 : Shape := ⟨3, ![1, 2048, 12304]⟩
abbrev S1x8 : Shape := ⟨2, ![1, 8]⟩
abbrev S2048 : Shape := ⟨1, ![2048]⟩
abbrev S2048x12304 : Shape := ⟨2, ![2048, 12304]⟩
abbrev S8 : Shape := ⟨1, ![8]⟩
abbrev S16384x2048 : Shape := ⟨2, ![16384, 2048]⟩
abbrev S12304x2048 : Shape := ⟨2, ![12304, 2048]⟩
abbrev S16x2048 : Shape := ⟨2, ![16, 2048]⟩
abbrev S_ : Shape := ⟨0, ![]⟩
abbrev S128x2048 : Shape := ⟨2, ![128, 2048]⟩
abbrev S128 : Shape := ⟨1, ![128]⟩
abbrev S1x128 : Shape := ⟨2, ![1, 128]⟩
abbrev S16384x12288 : Shape := ⟨2, ![16384, 12288]⟩
abbrev S16384x128 : Shape := ⟨2, ![16384, 128]⟩
abbrev S1024x2048 : Shape := ⟨2, ![1024, 2048]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 26
  | .vmem => 13
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x12304, .f32⟩
  | .hbm, ⟨3, _⟩ => ⟨S1x8, .f32⟩
  | .hbm, ⟨4, _⟩ => ⟨S1x8, .f32⟩
  | .hbm, ⟨5, _⟩ => ⟨S2048, .f32⟩
  | .hbm, ⟨6, _⟩ => ⟨S2048x12304, .f32⟩
  | .hbm, ⟨7, _⟩ => ⟨S8, .f32⟩
  | .hbm, ⟨8, _⟩ => ⟨S8, .f32⟩
  | .hbm, ⟨9, _⟩ => ⟨S16384x2048, .f32⟩
  | .hbm, ⟨10, _⟩ => ⟨S12304x2048, .f32⟩
  | .hbm, ⟨11, _⟩ => ⟨S16x2048, .f32⟩
  | .hbm, ⟨12, _⟩ => ⟨S_, .i32⟩
  | .hbm, ⟨13, _⟩ => ⟨S_, .f32⟩
  | .hbm, ⟨14, _⟩ => ⟨S128x2048, .f32⟩
  | .hbm, ⟨15, _⟩ => ⟨S1x2048, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S16384x12288, .bf16⟩
  | .hbm, ⟨25, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | .local _ .vmem, ⟨5, _⟩ => ⟨S128x2048, .f32⟩
  | .local _ .vmem, ⟨6, _⟩ => ⟨S1x128, .f32⟩
  | .local _ .vmem, ⟨7, _⟩ => ⟨S1x128, .f32⟩
  | .local _ .vmem, ⟨8, _⟩ => ⟨S1024x1024, .bf16⟩
  | .local _ .vmem, ⟨9, _⟩ => ⟨S1024x1024, .bf16⟩
  | .local _ .vmem, ⟨10, _⟩ => ⟨S1024x128, .f32⟩
  | .local _ .vmem, ⟨11, _⟩ => ⟨S1024x128, .f32⟩
  | .local _ .vmem, ⟨12, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_call2_v0 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 12], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  let c4_i32 : BitVec 32 := 4#32
  let v1 : BitVec 1 := Scalar.cmpi .sge arg1 c4_i32
  let c16_i32 : BitVec 32 := 16#32
  let c0_i32 : BitVec 32 := 0#32
  let v2 : BitVec 32 := Scalar.select v1 c16_i32 c0_i32
  let v3 : BitVec 32 := Scalar.addi v0 v2
  v3
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c4_i32 : BitVec 32 := 4#32
  let v1 : BitVec 1 := Scalar.cmpi .sge arg1 c4_i32
  let c16_i32 : BitVec 32 := 16#32
  let c0_i32 : BitVec 32 := 0#32
  let v2 : BitVec 32 := Scalar.select v1 c16_i32 c0_i32
  let v3 : BitVec 32 := Scalar.addi v0 v2
  let v4 : BitVec 32 := v3
  let c0_i32_0 : BitVec 32 := 0#32
  let c0_i32_1 : BitVec 32 := 0#32
  ![v4.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "qscale" => some (((Real.log 2)⁻¹ * (Real.sqrt 128)⁻¹ : ℝ) : EReal)
  | _ => none
-- ==== ReferenceIdeal.lean ====
abbrev S8x2048x2048 : Shape := ⟨3, ![8, 2048, 2048]⟩
abbrev S1x2048 : Shape := ⟨2, ![1, 2048]⟩
abbrev S1x2048x12304 : Shape := ⟨3, ![1, 2048, 12304]⟩
abbrev S1x8 : Shape := ⟨2, ![1, 8]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x12304 : Shape := ⟨2, ![2048, 12304]⟩
abbrev S8x2048x12304 : Shape := ⟨3, ![8, 2048, 12304]⟩
abbrev S8x2048x3072 : Shape := ⟨3, ![8, 2048, 3072]⟩
abbrev S8x2048x1024 : Shape := ⟨3, ![8, 2048, 1024]⟩
abbrev S8x2048x8 : Shape := ⟨3, ![8, 2048, 8]⟩
abbrev S8 : Shape := ⟨1, ![8]⟩
abbrev S1x1x8 : Shape := ⟨3, ![1, 1, 8]⟩
abbrev S8x2048x12288 : Shape := ⟨3, ![8, 2048, 12288]⟩
abbrev S8x2048x112 : Shape := ⟨3, ![8, 2048, 112]⟩
abbrev S8x2048x128 : Shape := ⟨3, ![8, 2048, 128]⟩
abbrev S16384x12288 : Shape := ⟨2, ![16384, 12288]⟩
abbrev S16384x128 : Shape := ⟨2, ![16384, 128]⟩

abbrev nBuf : Space → Nat
  | .hbm => 84
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x12304, .f32⟩
  | .hbm, ⟨3, _⟩ => ⟨S1x8, .f32⟩
  | .hbm, ⟨4, _⟩ => ⟨S1x8, .f32⟩
  | .hbm, ⟨5, _⟩ => ⟨S2048, .f32⟩
  | .hbm, ⟨6, _⟩ => ⟨S8x2048x2048, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S1x1x2048, .f32⟩
  | .hbm, ⟨20, _⟩ => ⟨S8x2048x2048, .f32⟩
  | .hbm, ⟨21, _⟩ => ⟨S8x2048x2048, .f32⟩
  | .hbm, ⟨22, _⟩ => ⟨S2048x12304, .f32⟩
  | .hbm, ⟨23, _⟩ => ⟨S8x2048x12304, .f32⟩
  | .hbm, ⟨24, _⟩ => ⟨S8x2048x3072, .f32⟩
  | .hbm, ⟨25, _⟩ => ⟨S8x2048x1024, .f32⟩
  | .hbm, ⟨26, _⟩ => ⟨S8x2048x8, .f32⟩
  | .hbm, ⟨27, _⟩ => ⟨S8x2048x8, .f32⟩
  | .hbm, ⟨28, _⟩ => ⟨S8x2048x3072, .f32⟩
  | .hbm, ⟨29, _⟩ => ⟨S8x2048x1024, .f32⟩
  | .hbm, ⟨30, _⟩ => ⟨S8x2048x2048, .f32⟩
  | .hbm, ⟨31, _⟩ => ⟨S8x2048x2048, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S_, .f32⟩
  | .hbm, ⟨36, _⟩ => ⟨S_, .f32⟩
  | .hbm, ⟨37, _⟩ => ⟨S8x2048x1024, .f32⟩
  | .hbm, ⟨38, _⟩ => ⟨S8x2048x1024, .f32⟩
  | .hbm, ⟨39, _⟩ => ⟨S_, .f32⟩
  | .hbm, ⟨40, _⟩ => ⟨S_, .f32⟩
  | .hbm, ⟨41, _⟩ => ⟨S8x2048x1024, .f32⟩
  | .hbm, ⟨42, _⟩ => ⟨S8x2048x1024, .f32⟩
  | .hbm, ⟨43, _⟩ => ⟨S8x2048x8, .f32⟩
  | .hbm, ⟨44, _⟩ => ⟨S8x2048x8, .f32⟩
  | .hbm, ⟨45, _⟩ => ⟨S_, .f32⟩
  | .hbm, ⟨46, _⟩ => ⟨S8x2048x8, .f32⟩
  | .hbm, ⟨47, _⟩ => ⟨S8x2048x8, .f32⟩
  | .hbm, ⟨48, _⟩ => ⟨S_, .f32⟩
  | .hbm, ⟨49, _⟩ => ⟨S8x2048x8, .f32⟩
  | .hbm, ⟨50, _⟩ => ⟨S8x2048x8, .f32⟩
  | .hbm, ⟨51, _⟩ => ⟨S8, .f32⟩
  | .hbm, ⟨52, _⟩ => ⟨S8, .f32⟩
  | .hbm, ⟨53, _⟩ => ⟨S8, .f32⟩
  | .hbm, ⟨54, _⟩ => ⟨S8, .f32⟩
  | .hbm, ⟨55, _⟩ => ⟨S1x1x8, .f32⟩
  | .hbm, ⟨56, _⟩ => ⟨S8x2048x8, .f32⟩
  | .hbm, ⟨57, _⟩ => ⟨S8x2048x8, .f32⟩
  | .hbm, ⟨58, _⟩ => ⟨S_, .f32⟩
  | .hbm, ⟨59, _⟩ => ⟨S8x2048x8, .f32⟩
  | .hbm, ⟨60, _⟩ => ⟨S8x2048x8, .f32⟩
  | .hbm, ⟨61, _⟩ => ⟨S8x2048x8, .f32⟩
  | .hbm, ⟨62, _⟩ => ⟨S8x2048x8, .f32⟩
  | .hbm, ⟨63, _⟩ => ⟨S8x2048x8, .i1⟩
  | .hbm, ⟨64, _⟩ => ⟨S8x2048x8, .f32⟩
  | .hbm, ⟨65, _⟩ => ⟨S8x2048x8, .f32⟩
  | .hbm, ⟨66, _⟩ => ⟨S8x2048x8, .f32⟩
  | .hbm, ⟨67, _⟩ => ⟨S8x2048x8, .f32⟩
  | .hbm, ⟨68, _⟩ => ⟨S8x2048x8, .f32⟩
  | .hbm, ⟨69, _⟩ => ⟨S8x2048x8, .f32⟩
  | .hbm, ⟨70, _⟩ => ⟨S8x2048x8, .f32⟩
  | .hbm, ⟨71, _⟩ => ⟨S8x2048x8, .f32⟩
  | .hbm, ⟨72, _⟩ => ⟨S1x1x8, .f32⟩
  | .hbm, ⟨73, _⟩ => ⟨S8x2048x8, .f32⟩
  | .hbm, ⟨74, _⟩ => ⟨S8x2048x8, .f32⟩
  | .hbm, ⟨75, _⟩ => ⟨S8x2048x12288, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S8x2048x112, .f32⟩
  | .hbm, ⟨80, _⟩ => ⟨S8x2048x128, .f32⟩
  | .hbm, ⟨81, _⟩ => ⟨S8x2048x12288, .bf16⟩
  | .hbm, ⟨82, _⟩ => ⟨S16384x12288, .bf16⟩
  | .hbm, ⟨83, _⟩ => ⟨S16384x128, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_v5 : Ref sig .tc := ⟨.hbm, 64, rfl⟩
abbrev main_call0_v6 : Ref sig .tc := ⟨.hbm, 65, rfl⟩
abbrev main_call0_v7 : Ref sig .tc := ⟨.hbm, 66, rfl⟩
abbrev main_call0_v8 : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_6 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩

abbrev nD : Nat := 1
abbrev τ : Topo := Topo.v7x

variable {F : FTy → Type} [FloatOps F]
-- ==== Kernel2.lean ====
abbrev S16384x1024 : Shape := ⟨2, ![16384, 1024]⟩
abbrev S16384x12288 : Shape := ⟨2, ![16384, 12288]⟩
abbrev S8x2048x2048 : Shape := ⟨3, ![8, 2048, 2048]⟩
abbrev S1x1024x2048 : Shape := ⟨3, ![1, 1024, 2048]⟩
abbrev S1x2048x2048 : Shape := ⟨3, ![1, 2048, 2048]⟩
abbrev S1x2048 : Shape := ⟨2, ![1, 2048]⟩
abbrev S1024x2048 : Shape := ⟨2, ![1024, 2048]⟩
abbrev S2048x2048 : Shape := ⟨2, ![2048, 2048]⟩
abbrev S2048 : Shape := ⟨1, ![2048]⟩
abbrev S16384x2048 : Shape := ⟨2, ![16384, 2048]⟩
abbrev S512x1024 : Shape := ⟨2, ![512, 1024]⟩
abbrev S512x2048 : Shape := ⟨2, ![512, 2048]⟩
abbrev S128x1024 : Shape := ⟨2, ![128, 1024]⟩
abbrev S128x2048 : Shape := ⟨2, ![128, 2048]⟩
abbrev S128 : Shape := ⟨1, ![128]⟩
abbrev S128x1 : Shape := ⟨2, ![128, 1]⟩

abbrev nBuf : Space → Nat
  | .hbm => 18
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x12288, .bf16⟩
  | .hbm, ⟨3, _⟩ => ⟨S8x2048x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1024x2048, .f32⟩
  | .hbm, ⟨9, _⟩ => ⟨S1024x2048, .f32⟩
  | .hbm, ⟨10, _⟩ => ⟨S2048x2048, .f32⟩
  | .hbm, ⟨11, _⟩ => ⟨S2048, .f32⟩
  | .hbm, ⟨12, _⟩ => ⟨S16384x2048, .f32⟩
  | .hbm, ⟨13, _⟩ => ⟨S1024x2048, .bf16⟩
  | .hbm, ⟨14, _⟩ => ⟨S1024x2048, .bf16⟩
  | .hbm, ⟨15, _⟩ => ⟨S2048x2048, .bf16⟩
  | .hbm, ⟨16, _⟩ => ⟨S1x2048, .f32⟩
  | .hbm, ⟨17, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S16384x1024 : Shape := ⟨2, ![16384, 1024]⟩
abbrev S16384x12288 : Shape := ⟨2, ![16384, 12288]⟩
abbrev S8x2048x2048 : Shape := ⟨3, ![8, 2048, 2048]⟩
abbrev S1x1024x2048 : Shape := ⟨3, ![1, 1024, 2048]⟩
abbrev S1x2048x2048 : Shape := ⟨3, ![1, 2048, 2048]⟩
abbrev S1x2048 : Shape := ⟨2, ![1, 2048]⟩
abbrev S16384x2048 : Shape := ⟨2, ![16384, 2048]⟩
abbrev S1024x2048 : Shape := ⟨2, ![1024, 2048]⟩
abbrev S_ : Shape := ⟨0, ![]⟩
abbrev S2048x2048 : Shape := ⟨2, ![2048, 2048]⟩
abbrev S2048 : Shape := ⟨1, ![2048]⟩
abbrev S16384 : Shape := ⟨1, ![16384]⟩
abbrev S16384x1 : Shape := ⟨2, ![16384, 1]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x12288, .bf16⟩
  | .hbm, ⟨3, _⟩ => ⟨S8x2048x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S16384x2048, .bf16⟩
  | .hbm, ⟨9, _⟩ => ⟨S16384x2048, .f32⟩
  | .hbm, ⟨10, _⟩ => ⟨S16384x2048, .bf16⟩
  | .hbm, ⟨11, _⟩ => ⟨S16384x2048, .f32⟩
  | .hbm, ⟨12, _⟩ => ⟨S16384x1024, .f32⟩
  | .hbm, ⟨13, _⟩ => ⟨S1024x2048, .f32⟩
  | .hbm, ⟨14, _⟩ => ⟨S16384x2048, .f32⟩
  | .hbm, ⟨15, _⟩ => ⟨S16384x1024, .f32⟩
  | .hbm, ⟨16, _⟩ => ⟨S1024x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S2048x2048, .f32⟩
  | .hbm, ⟨38, _⟩ => ⟨S16384x2048, .f32⟩
  | .hbm, ⟨39, _⟩ => ⟨S16384x2048, .f32⟩
  | .hbm, ⟨40, _⟩ => ⟨S2048, .f32⟩
  | .hbm, ⟨41, _⟩ => ⟨S16384x2048, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x2048, .f32⟩
  | .hbm, ⟨53, _⟩ => ⟨S16384x2048, .f32⟩
  | .hbm, ⟨54, _⟩ => ⟨S1x2048, .f32⟩
  | .hbm, ⟨55, _⟩ => ⟨S16384x2048, .f32⟩
  | .hbm, ⟨56, _⟩ => ⟨S16384x2048, .f32⟩
  | .hbm, ⟨57, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel3.lean ====
abbrev S16384x12288 : Shape := ⟨2, ![16384, 12288]⟩
abbrev S1x4x3072 : Shape := ⟨3, ![1, 4, 3072]⟩
abbrev S16384x128 : Shape := ⟨2, ![16384, 128]⟩
abbrev S1x128 : Shape := ⟨2, ![1, 128]⟩
abbrev S4x3072 : Shape := ⟨2, ![4, 3072]⟩
abbrev S128 : Shape := ⟨1, ![128]⟩
abbrev S16384x1024 : Shape := ⟨2, ![16384, 1024]⟩
abbrev S2048x128 : Shape := ⟨2, ![2048, 128]⟩
abbrev S4x128 : Shape := ⟨2, ![4, 128]⟩
abbrev S2056x128 : Shape := ⟨2, ![2056, 128]⟩
abbrev S2x16x128x128 : Shape := ⟨4, ![2, 16, 128, 128]⟩
abbrev S2x16x8x128 : Shape := ⟨4, ![2, 16, 8, 128]⟩
abbrev S16x128x128 : Shape := ⟨3, ![16, 128, 128]⟩
abbrev S1x16x128x128 : Shape := ⟨4, ![1, 16, 128, 128]⟩
abbrev S16x8x128 : Shape := ⟨3, ![16, 8, 128]⟩
abbrev S1x16x8x128 : Shape := ⟨4, ![1, 16, 8, 128]⟩
abbrev S128x128 : Shape := ⟨2, ![128, 128]⟩
abbrev S8x128 : Shape := ⟨2, ![8, 128]⟩
abbrev S2048 : Shape := ⟨1, ![2048]⟩
abbrev S2048x1 : Shape := ⟨2, ![2048, 1]⟩
abbrev S128x2048 : Shape := ⟨2, ![128, 2048]⟩
abbrev S16x128 : Shape := ⟨2, ![16, 128]⟩
abbrev S16x256 : Shape := ⟨2, ![16, 256]⟩
abbrev S256x256 : Shape := ⟨2, ![256, 256]⟩
abbrev S256x128 : Shape := ⟨2, ![256, 128]⟩
abbrev S128x256 : Shape := ⟨2, ![128, 256]⟩
abbrev S1x1x128x128 : Shape := ⟨4, ![1, 1, 128, 128]⟩
abbrev S128x1 : Shape := ⟨2, ![128, 1]⟩
abbrev S1x1x8x128 : Shape := ⟨4, ![1, 1, 8, 128]⟩
abbrev S1x256 : Shape := ⟨2, ![1, 256]⟩
abbrev S256 : Shape := ⟨1, ![256]⟩

abbrev nBuf : Space → Nat
  | .hbm => 9
  | .vmem => 40
  | .smem => 0
  | _ => 0

abbrev bufTy : (tb : Table) → Fin (tcTables nBuf tb) → BufTy
  | .hbm, ⟨0, _⟩ => ⟨S16384x12288, .bf16⟩
  | .hbm, ⟨1, _⟩ => ⟨S1x4x3072, .f32⟩
  | .hbm, ⟨2, _⟩ => ⟨S16384x128, .f32⟩
  | .hbm, ⟨3, _⟩ => ⟨S1x128, .f32⟩
  | .hbm, ⟨4, _⟩ => ⟨S4x3072, .f32⟩
  | .hbm, ⟨5, _⟩ => ⟨S128, .f32⟩
  | .hbm, ⟨6, _⟩ => ⟨S1x128, .f32⟩
  | .hbm, ⟨7, _⟩ => ⟨S16384x1024, .bf16⟩
  | .hbm, ⟨8, _⟩ => ⟨S16384x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S4x128, .f32⟩
  | .local _ .vmem, ⟨7, _⟩ => ⟨S4x128, .f32⟩
  | .local _ .vmem, ⟨8, _⟩ => ⟨S4x128, .f32⟩
  | .local _ .vmem, ⟨9, _⟩ => ⟨S4x128, .f32⟩
  | .local _ .vmem, ⟨10, _⟩ => ⟨S4x128, .f32⟩
  | .local _ .vmem, ⟨11, _⟩ => ⟨S4x128, .f32⟩
  | .local _ .vmem, ⟨12, _⟩ => ⟨S2048x128, .f32⟩
  | .local _ .vmem, ⟨13, _⟩ => ⟨S2048x128, .f32⟩
  | .local _ .vmem, ⟨14, _⟩ => ⟨S2048x128, .bf16⟩
  | .local _ .vmem, ⟨15, _⟩ => ⟨S2048x128, .bf16⟩
  | .local _ .vmem, ⟨16, _⟩ => ⟨S1x128, .f32⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S2048x128, .bf16⟩
  | .local _ .vmem, ⟨23, _⟩ => ⟨S2048x128, .bf16⟩
  | .local _ .vmem, ⟨24, _⟩ => ⟨S2048x128, .bf16⟩
  | .local _ .vmem, ⟨25, _⟩ => ⟨S2048x128, .bf16⟩
  | .local _ .vmem, ⟨26, _⟩ => ⟨S2048x128, .bf16⟩
  | .local _ .vmem, ⟨27, _⟩ => ⟨S2048x128, .bf16⟩
  | .local _ .vmem, ⟨28, _⟩ => ⟨S2048x128, .bf16⟩
  | .local _ .vmem, ⟨29, _⟩ => ⟨S2056x128, .f32⟩
  | .local _ .vmem, ⟨30, _⟩ => ⟨S2048x128, .f32⟩
  | .local _ .vmem, ⟨31, _⟩ => ⟨S2048x128, .f32⟩
  | .local _ .vmem, ⟨32, _⟩ => ⟨S2048x128, .f32⟩
  | .local _ .vmem, ⟨33, _⟩ => ⟨S2048x128, .f32⟩
  | .local _ .vmem, ⟨34, _⟩ => ⟨S2048x128, .f32⟩
  | .local _ .vmem, ⟨35, _⟩ => ⟨S2x16x128x128, .bf16⟩
  | .local _ .vmem, ⟨36, _⟩ => ⟨S2x16x128x128, .f32⟩
  | .local _ .vmem, ⟨37, _⟩ => ⟨S2x16x128x128, .bf16⟩
  | .local _ .vmem, ⟨38, _⟩ => ⟨S2x16x128x128, .f32⟩
  | .local _ .vmem, ⟨39, _⟩ => ⟨S2x16x8x128, .f32⟩
  | _, _ => ⟨S16384x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_scratch5 : Ref sig .tc := ⟨.vmem, 34, rfl⟩
abbrev cc0_scratch6 : Ref sig .tc := ⟨.vmem, 35, rfl⟩
abbrev cc0_scratch7 : Ref sig .tc := ⟨.vmem, 36, rfl⟩
abbrev cc0_scratch8 : Ref sig .tc := ⟨.vmem, 37, rfl⟩
abbrev cc0_scratch9 : Ref sig .tc := ⟨.vmem, 38, rfl⟩
abbrev cc0_scratch10 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨1, ![65], ![false]⟩

def k0_off1 (i : grid0.Coords) : Fin 4 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v340 : Index := Scalar.indexCast v6
  let c0_145 : Index := 0#32
  let c0_146 : Index := 0#32
  let c0_147 : Index := 0#32
  ![v340.toNat, 0, 0, 0]
def k0_off2 (i : grid0.Coords) : Fin 4 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v371 : Index := Scalar.indexCast v6
  let c0_161 : Index := 0#32
  let c0_162 : Index := 0#32
  let c0_163 : Index := 0#32
  ![v371.toNat, 0, 0, 0]
def k0_off3 (i : grid0.Coords) : Fin 4 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v711 : Index := Scalar.indexCast v6
  let c1_359 : Index := 1#32
  let c0_360 : Index := 0#32
  let c0_361 : Index := 0#32
  ![v711.toNat, 1, 0, 0]
def k0_off4 (i : grid0.Coords) : Fin 4 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v742 : Index := Scalar.indexCast v6
  let c1_375 : Index := 1#32
  let c0_376 : Index := 0#32
  let c0_377 : Index := 0#32
  ![v742.toNat, 1, 0, 0]
def k0_off5 (i : grid0.Coords) : Fin 4 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v1070 : Index := Scalar.indexCast v6
  let c2_445 : Index := 2#32
  let c0_446 : Index := 0#32
  let c0_447 : Index := 0#32
  ![v1070.toNat, 2, 0, 0]
def k0_off6 (i : grid0.Coords) : Fin 4 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v1101 : Index := Scalar.indexCast v6
  let c2_461 : Index := 2#32
  let c0_462 : Index := 0#32
  let c0_463 : Index := 0#32
  ![v1101.toNat, 2, 0, 0]
def k0_off7 (i : grid0.Coords) : Fin 4 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v1201 : Index := Scalar.indexCast v6
  let c3_517 : Index := 3#32
  let c0_518 : Index := 0#32
  let c0_519 : Index := 0#32
  ![v1201.toNat, 3, 0, 0]
def k0_off8 (i : grid0.Coords) : Fin 4 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v1232 : Index := Scalar.indexCast v6
  let c3_533 : Index := 3#32
  let c0_534 : Index := 0#32
  let c0_535 : Index := 0#32
  ![v1232.toNat, 3, 0, 0]
def k0_off9 (i : grid0.Coords) : Fin 4 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v1437 : Index := Scalar.indexCast v6
  let c4 : Index := 4#32
  let c0_588 : Index := 0#32
  let c0_589 : Index := 0#32
  ![v1437.toNat, 4, 0, 0]
def k0_off10 (i : grid0.Coords) : Fin 4 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v1468 : Index := Scalar.indexCast v6
  let c4_603 : Index := 4#32
  let c0_604 : Index := 0#32
  let c0_605 : Index := 0#32
  ![v1468.toNat, 4, 0, 0]
def k0_off11 (i : grid0.Coords) : Fin 4 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v1597 : Index := Scalar.indexCast v6
  let c5_665 : Index := 5#32
  let c0_666 : Index := 0#32
  let c0_667 : Index := 0#32
  ![v1597.toNat, 5, 0, 0]
def k0_off12 (i : grid0.Coords) : Fin 4 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v1628 : Index := Scalar.indexCast v6
  let c5_681 : Index := 5#32
  let c0_682 : Index := 0#32
  let c0_683 : Index := 0#32
  ![v1628.toNat, 5, 0, 0]
def k0_off13 (i : grid0.Coords) : Fin 4 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v1841 : Index := Scalar.indexCast v6
  let c6_741 : Index := 6#32
  let c0_742 : Index := 0#32
  let c0_743 : Index := 0#32
  ![v1841.toNat, 6, 0, 0]
def k0_off14 (i : grid0.Coords) : Fin 4 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v1872 : Index := Scalar.indexCast v6
  let c6_757 : Index := 6#32
  let c0_758 : Index := 0#32
  let c0_759 : Index := 0#32
  ![v1872.toNat, 6, 0, 0]
def k0_off15 (i : grid0.Coords) : Fin 4 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v1984 : Index := Scalar.indexCast v6
  let c7_809 : Index := 7#32
  let c0_810 : Index := 0#32
  let c0_811 : Index := 0#32
  ![v1984.toNat, 7, 0, 0]
def k0_off16 (i : grid0.Coords) : Fin 4 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v2015 : Index := Scalar.indexCast v6
  let c7_825 : Index := 7#32
  let c0_826 : Index := 0#32
  let c0_827 : Index := 0#32
  ![v2015.toNat, 7, 0, 0]
def k0_off17 (i : grid0.Coords) : Fin 4 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v2240 : Index := Scalar.indexCast v6
  let c8_900 : Index := 8#32
  let c0_901 : Index := 0#32
  let c0_902 : Index := 0#32
  ![v2240.toNat, 8, 0, 0]
def k0_off18 (i : grid0.Coords) : Fin 4 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v2271 : Index := Scalar.indexCast v6
  let c8_916 : Index := 8#32
  let c0_917 : Index := 0#32
  let c0_918 : Index := 0#32
  ![v2271.toNat, 8, 0, 0]
def k0_off19 (i : grid0.Coords) : Fin 4 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v2393 : Index := Scalar.indexCast v6
  let c9 : Index := 9#32
  let c0_957 : Index := 0#32
  let c0_958 : Index := 0#32
  ![v2393.toNat, 9, 0, 0]
def k0_off20 (i : grid0.Coords) : Fin 4 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v2424 : Index := Scalar.indexCast v6
  let c9_972 : Index := 9#32
  let c0_973 : Index := 0#32
  let c0_974 : Index := 0#32
  ![v2424.toNat, 9, 0, 0]
def k0_off21 (i : grid0.Coords) : Fin 4 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v2547 : Index := Scalar.indexCast v6
  let c10 : Index := 10#32
  let c0_1015 : Index := 0#32
  let c0_1016 : Index := 0#32
  ![v2547.toNat, 10, 0, 0]
def k0_off22 (i : grid0.Coords) : Fin 4 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v2578 : Index := Scalar.indexCast v6
  let c10_1030 : Index := 10#32
  let c0_1031 : Index := 0#32
  let c0_1032 : Index := 0#32
  ![v2578.toNat, 10, 0, 0]
def k0_off23 (i : grid0.Coords) : Fin 4 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v2679 : Index := Scalar.indexCast v6
  let c11 : Index := 11#32
  let c0_1066 : Index := 0#32
  let c0_1067 : Index := 0#32
  ![v2679.toNat, 11, 0, 0]
def k0_off24 (i : grid0.Coords) : Fin 4 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v2710 : Index := Scalar.indexCast v6
  let c11_1081 : Index := 11#32
  let c0_1082 : Index := 0#32
  let c0_1083 : Index := 0#32
  ![v2710.toNat, 11, 0, 0]
def k0_off25 (i : grid0.Coords) : Fin 4 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v2805 : Index := Scalar.indexCast v6
  let c12 : Index := 12#32
  let c0_1119 : Index := 0#32
  let c0_1120 : Index := 0#32
  ![v2805.toNat, 12, 0, 0]
def k0_off26 (i : grid0.Coords) : Fin 4 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v2836 : Index := Scalar.indexCast v6
  let c12_1134 : Index := 12#32
  let c0_1135 : Index := 0#32
  let c0_1136 : Index := 0#32
  ![v2836.toNat, 12, 0, 0]
def k0_off27 (i : grid0.Coords) : Fin 4 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v2916 : Index := Scalar.indexCast v6
  let c13 : Index := 13#32
  let c0_1167 : Index := 0#32
  let c0_1168 : Index := 0#32
  ![v2916.toNat, 13, 0, 0]
def k0_off28 (i : grid0.Coords) : Fin 4 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v2947 : Index := Scalar.indexCast v6
  let c13_1182 : Index := 13#32
  let c0_1183 : Index := 0#32
  let c0_1184 : Index := 0#32
  ![v2947.toNat, 13, 0, 0]
def k0_off29 (i : grid0.Coords) : Fin 4 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v3139 : Index := Scalar.indexCast v6
  let c14 : Index := 14#32
  let c0_1304 : Index := 0#32
  let c0_1305 : Index := 0#32
  ![v3139.toNat, 14, 0, 0]
def k0_off30 (i : grid0.Coords) : Fin 4 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v3170 : Index := Scalar.indexCast v6
  let c14_1319 : Index := 14#32
  let c0_1320 : Index := 0#32
  let c0_1321 : Index := 0#32
  ![v3170.toNat, 14, 0, 0]
def k0_off31 (i : grid0.Coords) : Fin 4 → Nat :=
  let arg0 : BitVec 32 := BitVec.ofNat 32 (i 0).val
  let c2_i32 : BitVec 32 := 2#32
  let v5 : BitVec 32 := Scalar.remsi arg0 c2_i32
  let v3201 : Index := Scalar.indexCast v5
  let c0_1334 : Index := 0#32
  let c0_1335 : Index := 0#32
  let c0_1336 : Index := 0#32
  ![v3201.toNat, 0, 0, 0]
def k0_off32 (i : grid0.Coords) : Fin 4 → Nat :=
  let arg0 : BitVec 32 := BitVec.ofNat 32 (i 0).val
  let c2_i32 : BitVec 32 := 2#32
  let v5 : BitVec 32 := Scalar.remsi arg0 c2_i32
  let v3228 : Index := Scalar.indexCast v5
  let c0_1348 : Index := 0#32
  let c0_1349 : Index := 0#32
  let c0_1350 : Index := 0#32
  ![v3228.toNat, 0, 0, 0]
def k0_off33 (i : grid0.Coords) : Fin 4 → Nat :=
  let arg0 : BitVec 32 := BitVec.ofNat 32 (i 0).val
  let c2_i32 : BitVec 32 := 2#32
  let v5 : BitVec 32 := Scalar.remsi arg0 c2_i32
  let v3248 : Index := Scalar.indexCast v5
  let c1_1356 : Index := 1#32
  let c0_1357 : Index := 0#32
  let c0_1358 : Index := 0#32
  ![v3248.toNat, 1, 0, 0]
def k0_off34 (i : grid0.Coords) : Fin 4 → Nat :=
  let arg0 : BitVec 32 := BitVec.ofNat 32 (i 0).val
  let c2_i32 : BitVec 32 := 2#32
  let v5 : BitVec 32 := Scalar.remsi arg0 c2_i32
  let v3275 : Index := Scalar.indexCast v5
  let c1_1370 : Index := 1#32
  let c0_1371 : Index := 0#32
  let c0_1372 : Index := 0#32
  ![v3275.toNat, 1, 0, 0]
def k0_off35 (i : grid0.Coords) : Fin 4 → Nat :=
  let arg0 : BitVec 32 := BitVec.ofNat 32 (i 0).val
  let c2_i32 : BitVec 32 := 2#32
  let v5 : BitVec 32 := Scalar.remsi arg0 c2_i32
  let v3295 : Index := Scalar.indexCast v5
  let c2_1378 : Index := 2#32
  let c0_1379 : Index := 0#32
  let c0_1380 : Index := 0#32
  ![v3295.toNat, 2, 0, 0]
def k0_off36 (i : grid0.Coords) : Fin 4 → Nat :=
  let arg0 : BitVec 32 := BitVec.ofNat 32 (i 0).val
  let c2_i32 : BitVec 32 := 2#32
  let v5 : BitVec 32 := Scalar.remsi arg0 c2_i32
  let v3322 : Index := Scalar.indexCast v5
  let c2_1392 : Index := 2#32
  let c0_1393 : Index := 0#32
  let c0_1394 : Index := 0#32
  ![v3322.toNat, 2, 0, 0]
def k0_off37 (i : grid0.Coords) : Fin 4 → Nat :=
  let arg0 : BitVec 32 := BitVec.ofNat 32 (i 0).val
  let c2_i32 : BitVec 32 := 2#32
  let v5 : BitVec 32 := Scalar.remsi arg0 c2_i32
  let v3342 : Index := Scalar.indexCast v5
  let c3_1400 : Index := 3#32
  let c0_1401 : Index := 0#32
  let c0_1402 : Index := 0#32
  ![v3342.toNat, 3, 0, 0]
def k0_off38 (i : grid0.Coords) : Fin 4 → Nat :=
  let arg0 : BitVec 32 := BitVec.ofNat 32 (i 0).val
  let c2_i32 : BitVec 32 := 2#32
  let v5 : BitVec 32 := Scalar.remsi arg0 c2_i32
  let v3369 : Index := Scalar.indexCast v5
  let c3_1414 : Index := 3#32
  let c0_1415 : Index := 0#32
  let c0_1416 : Index := 0#32
  ![v3369.toNat, 3, 0, 0]
def k0_off39 (i : grid0.Coords) : Fin 4 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v3374 : Index := Scalar.indexCast v6
  let c15 : Index := 15#32
  let c0_1417 : Index := 0#32
  let c0_1418 : Index := 0#32
  ![v3374.toNat, 15, 0, 0]
def k0_off40 (i : grid0.Coords) : Fin 4 → Nat :=
  let arg0 : BitVec 32 := BitVec.ofNat 32 (i 0).val
  let c2_i32 : BitVec 32 := 2#32
  let v5 : BitVec 32 := Scalar.remsi arg0 c2_i32
  let v3421 : Index := Scalar.indexCast v5
  let c4_1437 : Index := 4#32
  let c0_1438 : Index := 0#32
  let c0_1439 : Index := 0#32
  ![v3421.toNat, 4, 0, 0]
def k0_off41 (i : grid0.Coords) : Fin 4 → Nat :=
  let arg0 : BitVec 32 := BitVec.ofNat 32 (i 0).val
  let c2_i32 : BitVec 32 := 2#32
  let v5 : BitVec 32 := Scalar.remsi arg0 c2_i32
  let v3448 : Index := Scalar.indexCast v5
  let c4_1451 : Index := 4#32
  let c0_1452 : Index := 0#32
  let c0_1453 : Index := 0#32
  ![v3448.toNat, 4, 0, 0]
def k0_off42 (i : grid0.Coords) : Fin 4 → Nat :=
  let arg0 : BitVec 32 := BitVec.ofNat 32 (i 0).val
  let c2_i32 : BitVec 32 := 2#32
  let v5 : BitVec 32 := Scalar.remsi arg0 c2_i32
  let v3468 : Index := Scalar.indexCast v5
  let c5_1459 : Index := 5#32
  let c0_1460 : Index := 0#32
  let c0_1461 : Index := 0#32
  ![v3468.toNat, 5, 0, 0]
def k0_off43 (i : grid0.Coords) : Fin 4 → Nat :=
  let arg0 : BitVec 32 := BitVec.ofNat 32 (i 0).val
  let c2_i32 : BitVec 32 := 2#32
  let v5 : BitVec 32 := Scalar.remsi arg0 c2_i32
  let v3495 : Index := Scalar.indexCast v5
  let c5_1473 : Index := 5#32
  let c0_1474 : Index := 0#32
  let c0_1475 : Index := 0#32
  ![v3495.toNat, 5, 0, 0]
def k0_off44 (i : grid0.Coords) : Fin 4 → Nat :=
  let arg0 : BitVec 32 := BitVec.ofNat 32 (i 0).val
  let c2_i32 : BitVec 32 := 2#32
  let v5 : BitVec 32 := Scalar.remsi arg0 c2_i32
  let v3515 : Index := Scalar.indexCast v5
  let c6_1481 : Index := 6#32
  let c0_1482 : Index := 0#32
  let c0_1483 : Index := 0#32
  ![v3515.toNat, 6, 0, 0]
def k0_off45 (i : grid0.Coords) : Fin 4 → Nat :=
  let arg0 : BitVec 32 := BitVec.ofNat 32 (i 0).val
  let c2_i32 : BitVec 32 := 2#32
  let v5 : BitVec 32 := Scalar.remsi arg0 c2_i32
  let v3542 : Index := Scalar.indexCast v5
  let c6_1495 : Index := 6#32
  let c0_1496 : Index := 0#32
  let c0_1497 : Index := 0#32
  ![v3542.toNat, 6, 0, 0]
def k0_off46 (i : grid0.Coords) : Fin 4 → Nat :=
  let arg0 : BitVec 32 := BitVec.ofNat 32 (i 0).val
  let c2_i32 : BitVec 32 := 2#32
  let v5 : BitVec 32 := Scalar.remsi arg0 c2_i32
  let v3562 : Index := Scalar.indexCast v5
  let c7_1503 : Index := 7#32
  let c0_1504 : Index := 0#32
  let c0_1505 : Index := 0#32
  ![v3562.toNat, 7, 0, 0]
def k0_off47 (i : grid0.Coords) : Fin 4 → Nat :=
  let arg0 : BitVec 32 := BitVec.ofNat 32 (i 0).val
  let c2_i32 : BitVec 32 := 2#32
  let v5 : BitVec 32 := Scalar.remsi arg0 c2_i32
  let v3589 : Index := Scalar.indexCast v5
  let c7_1517 : Index := 7#32
  let c0_1518 : Index := 0#32
  let c0_1519 : Index := 0#32
  ![v3589.toNat, 7, 0, 0]
def k0_off48 (i : grid0.Coords) : Fin 4 → Nat :=
  let arg0 : BitVec 32 := BitVec.ofNat 32 (i 0).val
  let c2_i32 : BitVec 32 := 2#32
  let v5 : BitVec 32 := Scalar.remsi arg0 c2_i32
  let v3609 : Index := Scalar.indexCast v5
  let c8_1525 : Index := 8#32
  let c0_1526 : Index := 0#32
  let c0_1527 : Index := 0#32
  ![v3609.toNat, 8, 0, 0]
def k0_off49 (i : grid0.Coords) : Fin 4 → Nat :=
  let arg0 : BitVec 32 := BitVec.ofNat 32 (i 0).val
  let c2_i32 : BitVec 32 := 2#32
  let v5 : BitVec 32 := Scalar.remsi arg0 c2_i32
  let v3636 : Index := Scalar.indexCast v5
  let c8_1539 : Index := 8#32
  let c0_1540 : Index := 0#32
  let c0_1541 : Index := 0#32
  ![v3636.toNat, 8, 0, 0]
def k0_off50 (i : grid0.Coords) : Fin 4 → Nat :=
  let arg0 : BitVec 32 := BitVec.ofNat 32 (i 0).val
  let c2_i32 : BitVec 32 := 2#32
  let v5 : BitVec 32 := Scalar.remsi arg0 c2_i32
  let v3656 : Index := Scalar.indexCast v5
  let c9_1547 : Index := 9#32
  let c0_1548 : Index := 0#32
  let c0_1549 : Index := 0#32
  ![v3656.toNat, 9, 0, 0]
def k0_off51 (i : grid0.Coords) : Fin 4 → Nat :=
  let arg0 : BitVec 32 := BitVec.ofNat 32 (i 0).val
  let c2_i32 : BitVec 32 := 2#32
  let v5 : BitVec 32 := Scalar.remsi arg0 c2_i32
  let v3683 : Index := Scalar.indexCast v5
  let c9_1561 : Index := 9#32
  let c0_1562 : Index := 0#32
  let c0_1563 : Index := 0#32
  ![v3683.toNat, 9, 0, 0]
def k0_off52 (i : grid0.Coords) : Fin 4 → Nat :=
  let arg0 : BitVec 32 := BitVec.ofNat 32 (i 0).val
  let c2_i32 : BitVec 32 := 2#32
  let v5 : BitVec 32 := Scalar.remsi arg0 c2_i32
  let v3703 : Index := Scalar.indexCast v5
  let c10_1569 : Index := 10#32
  let c0_1570 : Index := 0#32
  let c0_1571 : Index := 0#32
  ![v3703.toNat, 10, 0, 0]
def k0_off53 (i : grid0.Coords) : Fin 4 → Nat :=
  let arg0 : BitVec 32 := BitVec.ofNat 32 (i 0).val
  let c2_i32 : BitVec 32 := 2#32
  let v5 : BitVec 32 := Scalar.remsi arg0 c2_i32
  let v3730 : Index := Scalar.indexCast v5
  let c10_1583 : Index := 10#32
  let c0_1584 : Index := 0#32
  let c0_1585 : Index := 0#32
  ![v3730.toNat, 10, 0, 0]
def k0_off54 (i : grid0.Coords) : Fin 4 → Nat :=
  let arg0 : BitVec 32 := BitVec.ofNat 32 (i 0).val
  let c2_i32 : BitVec 32 := 2#32
  let v5 : BitVec 32 := Scalar.remsi arg0 c2_i32
  let v3750 : Index := Scalar.indexCast v5
  let c11_1591 : Index := 11#32
  let c0_1592 : Index := 0#32
  let c0_1593 : Index := 0#32
  ![v3750.toNat, 11, 0, 0]
def k0_off55 (i : grid0.Coords) : Fin 4 → Nat :=
  let arg0 : BitVec 32 := BitVec.ofNat 32 (i 0).val
  let c2_i32 : BitVec 32 := 2#32
  let v5 : BitVec 32 := Scalar.remsi arg0 c2_i32
  let v3777 : Index := Scalar.indexCast v5
  let c11_1605 : Index := 11#32
  let c0_1606 : Index := 0#32
  let c0_1607 : Index := 0#32
  ![v3777.toNat, 11, 0, 0]
def k0_off56 (i : grid0.Coords) : Fin 4 → Nat :=
  let arg0 : BitVec 32 := BitVec.ofNat 32 (i 0).val
  let c2_i32 : BitVec 32 := 2#32
  let v5 : BitVec 32 := Scalar.remsi arg0 c2_i32
  let v3797 : Index := Scalar.indexCast v5
  let c12_1613 : Index := 12#32
  let c0_1614 : Index := 0#32
  let c0_1615 : Index := 0#32
  ![v3797.toNat, 12, 0, 0]
def k0_off57 (i : grid0.Coords) : Fin 4 → Nat :=
  let arg0 : BitVec 32 := BitVec.ofNat 32 (i 0).val
  let c2_i32 : BitVec 32 := 2#32
  let v5 : BitVec 32 := Scalar.remsi arg0 c2_i32
  let v3824 : Index := Scalar.indexCast v5
  let c12_1627 : Index := 12#32
  let c0_1628 : Index := 0#32
  let c0_1629 : Index := 0#32
  ![v3824.toNat, 12, 0, 0]
def k0_off58 (i : grid0.Coords) : Fin 4 → Nat :=
  let arg0 : BitVec 32 := BitVec.ofNat 32 (i 0).val
  let c2_i32 : BitVec 32 := 2#32
  let v5 : BitVec 32 := Scalar.remsi arg0 c2_i32
  let v3844 : Index := Scalar.indexCast v5
  let c13_1635 : Index := 13#32
  let c0_1636 : Index := 0#32
  let c0_1637 : Index := 0#32
  ![v3844.toNat, 13, 0, 0]
def k0_off59 (i : grid0.Coords) : Fin 4 → Nat :=
  let arg0 : BitVec 32 := BitVec.ofNat 32 (i 0).val
  let c2_i32 : BitVec 32 := 2#32
  let v5 : BitVec 32 := Scalar.remsi arg0 c2_i32
  let v3871 : Index := Scalar.indexCast v5
  let c13_1649 : Index := 13#32
  let c0_1650 : Index := 0#32
  let c0_1651 : Index := 0#32
  ![v3871.toNat, 13, 0, 0]
def k0_off60 (i : grid0.Coords) : Fin 4 → Nat :=
  let arg0 : BitVec 32 := BitVec.ofNat 32 (i 0).val
  let c2_i32 : BitVec 32 := 2#32
  let v5 : BitVec 32 := Scalar.remsi arg0 c2_i32
  let v3891 : Index := Scalar.indexCast v5
  let c14_1657 : Index := 14#32
  let c0_1658 : Index := 0#32
  let c0_1659 : Index := 0#32
  ![v3891.toNat, 14, 0, 0]
def k0_off61 (i : grid0.Coords) : Fin 4 → Nat :=
  let arg0 : BitVec 32 := BitVec.ofNat 32 (i 0).val
  let c2_i32 : BitVec 32 := 2#32
  let v5 : BitVec 32 := Scalar.remsi arg0 c2_i32
  let v3918 : Index := Scalar.indexCast v5
  let c14_1671 : Index := 14#32
  let c0_1672 : Index := 0#32
  let c0_1673 : Index := 0#32
  ![v3918.toNat, 14, 0, 0]
def k0_off62 (i : grid0.Coords) : Fin 4 → Nat :=
  let arg0 : BitVec 32 := BitVec.ofNat 32 (i 0).val
  let c2_i32 : BitVec 32 := 2#32
  let v5 : BitVec 32 := Scalar.remsi arg0 c2_i32
  let v3938 : Index := Scalar.indexCast v5
  let c15_1679 : Index := 15#32
  let c0_1680 : Index := 0#32
  let c0_1681 : Index := 0#32
  ![v3938.toNat, 15, 0, 0]
def k0_off63 (i : grid0.Coords) : Fin 4 → Nat :=
  let arg0 : BitVec 32 := BitVec.ofNat 32 (i 0).val
  let c2_i32 : BitVec 32 := 2#32
  let v5 : BitVec 32 := Scalar.remsi arg0 c2_i32
  let v3965 : Index := Scalar.indexCast v5
  let c15_1693 : Index := 15#32
  let c0_1694 : Index := 0#32
  let c0_1695 : Index := 0#32
  ![v3965.toNat, 15, 0, 0]
def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c8_i32_5 : BitVec 32 := 8#32
  let v19 : BitVec 32 := Scalar.remsi v18 c8_i32_5
  let c0_i32_6 : BitVec 32 := 0#32
  let v20 : BitVec 32 := Scalar.addi c0_i32_6 v19
  let c0_i32_7 : BitVec 32 := 0#32
  ![v17.toNat, v20.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c8_i32_5 : BitVec 32 := 8#32
  let v19 : BitVec 32 := Scalar.remsi v18 c8_i32_5
  let c8_i32_6 : BitVec 32 := 8#32
  let v20 : BitVec 32 := Scalar.addi c8_i32_6 v19
  let c0_i32_7 : BitVec 32 := 0#32
  ![v17.toNat, v20.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c8_i32_5 : BitVec 32 := 8#32
  let v19 : BitVec 32 := Scalar.remsi v18 c8_i32_5
  let c16_i32 : BitVec 32 := 16#32
  let v20 : BitVec 32 := Scalar.addi c16_i32 v19
  let c0_i32_6 : BitVec 32 := 0#32
  ![v17.toNat, v20.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.remsi v0 c8_i32
  let c0_i32 : BitVec 32 := 0#32
  let v2 : BitVec 32 := Scalar.addi c0_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.remsi v0 c8_i32
  let c8_i32_0 : BitVec 32 := 8#32
  let v2 : BitVec 32 := Scalar.addi c8_i32_0 v1
  let c0_i32 : BitVec 32 := 0#32
  let c0_i32_1 : BitVec 32 := 0#32
  ![c0_i32.toNat, v2.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.remsi v0 c8_i32
  let c16_i32 : BitVec 32 := 16#32
  let v2 : BitVec 32 := Scalar.addi c16_i32 v1
  let c0_i32 : BitVec 32 := 0#32
  let c0_i32_0 : BitVec 32 := 0#32
  ![c0_i32.toNat, v2.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c8_i32_8 : BitVec 32 := 8#32
  let v21 : BitVec 32 := Scalar.remsi v20 c8_i32_8
  let c24_i32 : BitVec 32 := 24#32
  let v22 : BitVec 32 := Scalar.addi c24_i32 v21
  let c0_i32_9 : BitVec 32 := 0#32
  ![v18.toNat, v22.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c8_i32_5 : BitVec 32 := 8#32
  let v19 : BitVec 32 := Scalar.remsi v18 c8_i32_5
  let c32_i32 : BitVec 32 := 32#32
  let v20 : BitVec 32 := Scalar.addi c32_i32 v19
  let c0_i32_6 : BitVec 32 := 0#32
  ![v17.toNat, v20.toNat]

def cc0_transform_10 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c8_i32_5 : BitVec 32 := 8#32
  let v19 : BitVec 32 := Scalar.remsi v18 c8_i32_5
  let c40_i32 : BitVec 32 := 40#32
  let v20 : BitVec 32 := Scalar.addi c40_i32 v19
  let c0_i32_6 : BitVec 32 := 0#32
  ![v17.toNat, v20.toNat]

def cc0_transform_11 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c8_i32_5 : BitVec 32 := 8#32
  let v19 : BitVec 32 := Scalar.remsi v18 c8_i32_5
  let c48_i32 : BitVec 32 := 48#32
  let v20 : BitVec 32 := Scalar.addi c48_i32 v19
  let c0_i32_6 : BitVec 32 := 0#32
  ![v17.toNat, v20.toNat]

def cc0_transform_12 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c8_i32_5 : BitVec 32 := 8#32
  let v19 : BitVec 32 := Scalar.remsi v18 c8_i32_5
  let c56_i32 : BitVec 32 := 56#32
  let v20 : BitVec 32 := Scalar.addi c56_i32 v19
  let c0_i32_6 : BitVec 32 := 0#32
  ![v17.toNat, v20.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c8_i32_8 : BitVec 32 := 8#32
  let v21 : BitVec 32 := Scalar.remsi v20 c8_i32_8
  let c0_i32_9 : BitVec 32 := 0#32
  let v22 : BitVec 32 := Scalar.addi c0_i32_9 v21
  let c0_i32_10 : BitVec 32 := 0#32
  ![v18.toNat, v22.toNat]

def cc0_transform_14 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c8_i32_5 : BitVec 32 := 8#32
  let v19 : BitVec 32 := Scalar.remsi v18 c8_i32_5
  let c0_i32_6 : BitVec 32 := 0#32
  let v20 : BitVec 32 := Scalar.addi c0_i32_6 v19
  let c0_i32_7 : BitVec 32 := 0#32
  ![v17.toNat, v20.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Kernel3Ideal.lean ====
variable {F : FTy → Type} [FloatOps F] [Named F]
def κ : String → Option EReal := fun
  | "mask" => some ⊥
  | _ => none
-- ==== Reference3Ideal.lean ====
abbrev S16384x12288 : Shape := ⟨2, ![16384, 12288]⟩
abbrev S1x4x3072 : Shape := ⟨3, ![1, 4, 3072]⟩
abbrev S16384x128 : Shape := ⟨2, ![16384, 128]⟩
abbrev S1x128 : Shape := ⟨2, ![1, 128]⟩
abbrev S16384x1024 : Shape := ⟨2, ![16384, 1024]⟩
abbrev S_ : Shape := ⟨0, ![]⟩
abbrev S8x2048x8x128 : Shape := ⟨4, ![8, 2048, 8, 128]⟩
abbrev S8x8x256x8x128 : Shape := ⟨5, ![8, 8, 256, 8, 128]⟩
abbrev S8x8x8x256x128 : Shape := ⟨5, ![8, 8, 8, 256, 128]⟩
abbrev S8x8x8x128 : Shape := ⟨4, ![8, 8, 8, 128]⟩
abbrev S8x8x2048x128 : Shape := ⟨4, ![8, 8, 2048, 128]⟩
abbrev S8x8x2048x8 : Shape := ⟨4, ![8, 8, 2048, 8]⟩
abbrev S2048 : Shape := ⟨1, ![2048]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S8x8x2048x3 : Shape := ⟨4, ![8, 8, 2048, 3]⟩
abbrev S8x1x1x1 : Shape := ⟨4, ![8, 1, 1, 1]⟩
abbrev S1x8x1x1 : Shape := ⟨4, ![1, 8, 1, 1]⟩
abbrev S8x8x2048x3x1 : Shape := ⟨5, ![8, 8, 2048, 3, 1]⟩
abbrev S8x8x2048x3x3 : Shape := ⟨5, ![8, 8, 2048, 3, 3]⟩
abbrev S8x8x2048x3x256x128 : Shape := ⟨6, ![8, 8, 2048, 3, 256, 128]⟩
abbrev S8x8x2048x3x256 : Shape := ⟨5, ![8, 8, 2048, 3, 256]⟩
abbrev S8x8x2048x768 : Shape := ⟨4, ![8, 8, 2048, 768]⟩
abbrev S8x8x8x256x256 : Shape := ⟨5, ![8, 8, 8, 256, 256]⟩
abbrev S8x8x2048x256 : Shape := ⟨4, ![8, 8, 2048, 256]⟩
abbrev S3 : Shape := ⟨1, ![3]⟩
abbrev S1x3 : Shape := ⟨2, ![1, 3]⟩
abbrev S2048x3 : Shape := ⟨2, ![2048, 3]⟩
abbrev S2048x3x1 : Shape := ⟨3, ![2048, 3, 1]⟩
abbrev S2048x3x256 : Shape := ⟨3, ![2048, 3, 256]⟩
abbrev S2048x768 : Shape := ⟨2, ![2048, 768]⟩
abbrev S256 : Shape := ⟨1, ![256]⟩
abbrev S1x256 : Shape := ⟨2, ![1, 256]⟩
abbrev S2048x256 : Shape := ⟨2, ![2048, 256]⟩
abbrev S2048x1024 : Shape := ⟨2, ![2048, 1024]⟩
abbrev S8x8x2048x1024 : Shape := ⟨4, ![8, 8, 2048, 1024]⟩
abbrev S8x8x2048 : Shape := ⟨3, ![8, 8, 2048]⟩
abbrev S8x8x2048x1 : Shape := ⟨4, ![8, 8, 2048, 1]⟩

abbrev nBuf : Space → Nat
  | .hbm => 199
  | .vmem => 0
  | .smem => 0
  | _ => 0

abbrev hbmTy0_0 (i : Nat) : BufTy := match i % 128 with
  | 0 => ⟨S16384x12288, .bf16⟩
  | 1 => ⟨S1x4x3072, .f32⟩
  | 2 => ⟨S16384x128, .f32⟩
  | 3 => ⟨S1x128, .f32⟩
  | 4 => ⟨S16384x1024, .bf16⟩
  | 5 => ⟨S16384x1024, .f32⟩
  | 6 => ⟨S_, .f32⟩
  | 7 => ⟨S_, .f32⟩
  | 8 => ⟨S16384x1024, .f32⟩
  | 9 => ⟨S16384x1024, .f32⟩
  | 10 => ⟨S_, .f32⟩
  | 11 => ⟨S_, .f32⟩
  | 12 => ⟨S16384x1024, .f32⟩
  | 13 => ⟨S16384x1024, .f32⟩
  | 14 => ⟨S8x2048x8x128, .f32⟩
  | 15 => ⟨S16384x1024, .bf16⟩
  | 16 => ⟨S16384x1024, .f32⟩
  | 17 => ⟨S8x2048x8x128, .f32⟩
  | 18 => ⟨S16384x1024, .bf16⟩
  | 19 => ⟨S16384x1024, .f32⟩
  | 20 => ⟨S8x2048x8x128, .f32⟩
  | 21 => ⟨S16384x1024, .bf16⟩
  | 22 => ⟨S16384x1024, .f32⟩
  | 23 => ⟨S8x8x256x8x128, .f32⟩
  | 24 => ⟨S8x8x8x256x128, .f32⟩
  | 25 => ⟨S8x8x256x8x128, .f32⟩
  | 26 => ⟨S8x8x8x256x128, .f32⟩
  | 27 => ⟨S_, .f32⟩
  | 28 => ⟨S8x8x8x128, .f32⟩
  | 29 => ⟨S_, .f32⟩
  | 30 => ⟨S8x8x8x128, .f32⟩
  | 31 => ⟨S8x8x8x128, .f32⟩
  | 32 => ⟨S8x8x2048x128, .f32⟩
  | 33 => ⟨S8x8x2048x8, .f32⟩
  | 34 => ⟨S2048, .i32⟩
  | 35 => ⟨S_, .i32⟩
  | 36 => ⟨S_, .i32⟩
  | 37 => ⟨S2048, .i32⟩
  | 38 => ⟨S2048, .i32⟩
  | 39 => ⟨S2048, .i32⟩
  | 40 => ⟨S_, .i32⟩
  | 41 => ⟨S2048, .i32⟩
  | 42 => ⟨S2048, .i1⟩
  | 43 => ⟨S2048, .i32⟩
  | 44 => ⟨S2048, .i32⟩
  | 45 => ⟨S_, .i32⟩
  | 46 => ⟨S2048, .i32⟩
  | 47 => ⟨S2048, .i1⟩
  | 48 => ⟨S2048, .i1⟩
  | 49 => ⟨S_, .i32⟩
  | 50 => ⟨S2048, .i32⟩
  | 51 => ⟨S2048, .i32⟩
  | 52 => ⟨S2048, .i32⟩
  | 53 => ⟨S8, .i32⟩
  | 54 => ⟨S1x8, .i32⟩
  | 55 => ⟨S2048x1, .i32⟩
  | 56 => ⟨S2048x8, .i32⟩
  | 57 => ⟨S2048x8, .i32⟩
  | 58 => ⟨S2048x8, .i1⟩
  | 59 => ⟨S_, .f32⟩
  | 60 => ⟨S_, .f32⟩
  | 61 => ⟨S8x8x2048x8, .i1⟩
  | 62 => ⟨S8x8x2048x8, .f32⟩
  | 63 => ⟨S8x8x2048x8, .f32⟩
  | 64 => ⟨S8x8x2048x3, .f32⟩
  | 65 => ⟨S8x8x2048x3, .i32⟩
  | 66 => ⟨S8, .i32⟩
  | 67 => ⟨S8x1x1x1, .i32⟩
  | 68 => ⟨S8, .i32⟩
  | 69 => ⟨S1x8x1x1, .i32⟩
  | 70 => ⟨S_, .i32⟩
  | 71 => ⟨S8x1x1x1, .i32⟩
  | 72 => ⟨S8x1x1x1, .i1⟩
  | 73 => ⟨S_, .i32⟩
  | 74 => ⟨S8x1x1x1, .i32⟩
  | 75 => ⟨S8x1x1x1, .i32⟩
  | 76 => ⟨S8x1x1x1, .i32⟩
  | 77 => ⟨S_, .i32⟩
  | 78 => ⟨S1x8x1x1, .i32⟩
  | 79 => ⟨S1x8x1x1, .i1⟩
  | 80 => ⟨S_, .i32⟩
  | 81 => ⟨S1x8x1x1, .i32⟩
  | 82 => ⟨S1x8x1x1, .i32⟩
  | 83 => ⟨S1x8x1x1, .i32⟩
  | 84 => ⟨S_, .i32⟩
  | 85 => ⟨S8x8x2048x3, .i32⟩
  | 86 => ⟨S8x8x2048x3, .i1⟩
  | 87 => ⟨S_, .i32⟩
  | 88 => ⟨S8x8x2048x3, .i32⟩
  | 89 => ⟨S8x8x2048x3, .i32⟩
  | 90 => ⟨S8x8x2048x3, .i32⟩
  | 91 => ⟨S8x8x2048x3, .i32⟩
  | 92 => ⟨S8x8x2048x3, .i32⟩
  | 93 => ⟨S8x8x2048x3x1, .i32⟩
  | 94 => ⟨S8x8x2048x3x1, .i32⟩
  | 95 => ⟨S8x8x2048x3x1, .i32⟩
  | 96 => ⟨S8x8x2048x3x3, .i32⟩
  | 97 => ⟨S8x8x2048x3x256x128, .f32⟩
  | 98 => ⟨S_, .i32⟩
  | 99 => ⟨S8x1x1x1, .i32⟩
  | 100 => ⟨S8x1x1x1, .i1⟩
  | 101 => ⟨S_, .i32⟩
  | 102 => ⟨S8x1x1x1, .i32⟩
  | 103 => ⟨S8x1x1x1, .i32⟩
  | 104 => ⟨S8x1x1x1, .i32⟩
  | 105 => ⟨S_, .i32⟩
  | 106 => ⟨S1x8x1x1, .i32⟩
  | 107 => ⟨S1x8x1x1, .i1⟩
  | 108 => ⟨S_, .i32⟩
  | 109 => ⟨S1x8x1x1, .i32⟩
  | 110 => ⟨S1x8x1x1, .i32⟩
  | 111 => ⟨S1x8x1x1, .i32⟩
  | 112 => ⟨S_, .i32⟩
  | 113 => ⟨S8x8x2048x3, .i32⟩
  | 114 => ⟨S8x8x2048x3, .i1⟩
  | 115 => ⟨S_, .i32⟩
  | 116 => ⟨S8x8x2048x3, .i32⟩
  | 117 => ⟨S8x8x2048x3, .i32⟩
  | 118 => ⟨S8x8x2048x3, .i32⟩
  | 119 => ⟨S8x8x2048x3, .i32⟩
  | 120 => ⟨S8x8x2048x3, .i32⟩
  | 121 => ⟨S8x8x2048x3x1, .i32⟩
  | 122 => ⟨S8x8x2048x3x1, .i32⟩
  | 123 => ⟨S8x8x2048x3x1, .i32⟩
  | 124 => ⟨S8x8x2048x3x3, .i32⟩
  | 125 => ⟨S8x8x2048x3x256x128, .f32⟩
  | 126 => ⟨S8x8x2048x3x256, .f32⟩
  | 127 => ⟨S8x8x2048x768, .f32⟩
  | _ => ⟨S16384x12288, .bf16⟩

abbrev hbmTy0_1 (i : Nat) : BufTy := match i % 128 with
  | 0 => ⟨S8x8x8x256x128, .f32⟩
  | 1 => ⟨S8x8x8x256x256, .f32⟩
  | 2 => ⟨S8x8x2048x256, .f32⟩
  | 3 => ⟨S3, .i32⟩
  | 4 => ⟨S1x3, .i32⟩
  | 5 => ⟨S2048x1, .i32⟩
  | 6 => ⟨S2048x3, .i32⟩
  | 7 => ⟨S2048x3, .i32⟩
  | 8 => ⟨S2048x3, .i1⟩
  | 9 => ⟨S2048x3x1, .i1⟩
  | 10 => ⟨S2048x3x256, .i1⟩
  | 11 => ⟨S2048x768, .i1⟩
  | 12 => ⟨S_, .i32⟩
  | 13 => ⟨S2048, .i32⟩
  | 14 => ⟨S2048, .i32⟩
  | 15 => ⟨S2048x1, .i32⟩
  | 16 => ⟨S256, .i32⟩
  | 17 => ⟨S1x256, .i32⟩
  | 18 => ⟨S2048x256, .i32⟩
  | 19 => ⟨S2048x256, .i32⟩
  | 20 => ⟨S2048x256, .i32⟩
  | 21 => ⟨S2048, .i32⟩
  | 22 => ⟨S2048x1, .i32⟩
  | 23 => ⟨S2048x256, .i32⟩
  | 24 => ⟨S2048x256, .i1⟩
  | 25 => ⟨S2048x1024, .i1⟩
  | 26 => ⟨S8x8x2048x1024, .f32⟩
  | 27 => ⟨S_, .f32⟩
  | 28 => ⟨S_, .f32⟩
  | 29 => ⟨S8x8x2048x1024, .f32⟩
  | 30 => ⟨S8x8x2048x1024, .f32⟩
  | 31 => ⟨S_, .f32⟩
  | 32 => ⟨S_, .f32⟩
  | 33 => ⟨S8x8x2048x1024, .i1⟩
  | 34 => ⟨S8x8x2048x1024, .f32⟩
  | 35 => ⟨S8x8x2048x1024, .f32⟩
  | 36 => ⟨S_, .f32⟩
  | 37 => ⟨S8x8x2048, .f32⟩
  | 38 => ⟨S_, .f32⟩
  | 39 => ⟨S8x8x2048, .f32⟩
  | 40 => ⟨S8x8x2048, .f32⟩
  | 41 => ⟨S8x8x2048x1, .f32⟩
  | 42 => ⟨S8x8x2048x1024, .f32⟩
  | 43 => ⟨S8x8x2048x1024, .f32⟩
  | 44 => ⟨S8x8x2048x1024, .f32⟩
  | 45 => ⟨S_, .f32⟩
  | 46 => ⟨S8x8x2048, .f32⟩
  | 47 => ⟨S8x8x2048x1, .f32⟩
  | 48 => ⟨S8x8x2048x1024, .f32⟩
  | 49 => ⟨S8x8x2048x1024, .f32⟩
  | 50 => ⟨S8x8x2048x768, .f32⟩
  | 51 => ⟨S8x8x2048x3x256, .f32⟩
  | 52 => ⟨S8x8x2048x256, .f32⟩
  | 53 => ⟨S8x8x8x256x256, .f32⟩
  | 54 => ⟨S8x8x2048x128, .f32⟩
  | 55 => ⟨S8x8x8x256x128, .f32⟩
  | 56 => ⟨S8x8x2048x128, .f32⟩
  | 57 => ⟨S8x8x2048x128, .f32⟩
  | 58 => ⟨S8x2048x8x128, .f32⟩
  | 59 => ⟨S16384x1024, .f32⟩
  | 60 => ⟨S16384x1024, .f32⟩
  | 61 => ⟨S16384x1024, .f32⟩
  | 62 => ⟨S_, .f32⟩
  | 63 => ⟨S16384x1024, .f32⟩
  | 64 => ⟨S16384x1024, .f32⟩
  | 65 => ⟨S_, .f32⟩
  | 66 => ⟨S16384x1024, .f32⟩
  | 67 => ⟨S16384x1024, .f32⟩
  | 68 => ⟨S16384x1024, .f32⟩
  | 69 => ⟨S16384x1024, .f32⟩
  | 70 => ⟨S16384x1024, .bf16⟩
  | _ => ⟨S16384x12288, .bf16⟩

abbrev hbmTy (i : Nat) : BufTy := match i / 128 with
  | 0 => hbmTy0_0 i
  | 1 => hbmTy0_1 i
  | _ => ⟨S16384x12288, .bf16⟩

abbrev bufTy : (tb : Table) → Fin (tcTables nBuf tb) → BufTy
  | .hbm, ⟨i, _⟩ => hbmTy i
  | _, _ => ⟨S16384x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_c : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_0 : Ref sig .tc := ⟨.hbm, 49, rfl⟩
abbrev main_call0_v12 : Ref sig .tc := ⟨.hbm, 50, rfl⟩
abbrev main_call0_v13 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_3 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v34 : Ref sig .tc := ⟨.hbm, 63, rfl⟩
abbrev main_values : Ref sig .tc := ⟨.hbm, 64, rfl⟩
abbrev main_indices : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_c_4 : Ref sig .tc := ⟨.hbm, 70, rfl⟩
abbrev main_v39 : Ref sig .tc := ⟨.hbm, 71, rfl⟩
abbrev main_v40 : Ref sig .tc := ⟨.hbm, 72, rfl⟩
abbrev main_c_5 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_c_6 : Ref sig .tc := ⟨.hbm, 77, rfl⟩
abbrev main_v44 : Ref sig .tc := ⟨.hbm, 78, rfl⟩
abbrev main_v45 : Ref sig .tc := ⟨.hbm, 79, rfl⟩
abbrev main_c_7 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_c_8 : Ref sig .tc := ⟨.hbm, 84, rfl⟩
abbrev main_v49 : Ref sig .tc := ⟨.hbm, 85, rfl⟩
abbrev main_v50 : Ref sig .tc := ⟨.hbm, 86, rfl⟩
abbrev main_c_9 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_c_10 : Ref sig .tc := ⟨.hbm, 98, rfl⟩
abbrev main_v61 : Ref sig .tc := ⟨.hbm, 99, rfl⟩
abbrev main_v62 : Ref sig .tc := ⟨.hbm, 100, rfl⟩
abbrev main_c_11 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_c_12 : Ref sig .tc := ⟨.hbm, 105, rfl⟩
abbrev main_v66 : Ref sig .tc := ⟨.hbm, 106, rfl⟩
abbrev main_v67 : Ref sig .tc := ⟨.hbm, 107, rfl⟩
abbrev main_c_13 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_c_14 : Ref sig .tc := ⟨.hbm, 112, rfl⟩
abbrev main_v71 : Ref sig .tc := ⟨.hbm, 113, rfl⟩
abbrev main_v72 : Ref sig .tc := ⟨.hbm, 114, rfl⟩
abbrev main_c_15 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_c_16 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_17 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_18 : Ref sig .tc := ⟨.hbm, 159, rfl⟩
abbrev main_call2_v0 : Ref sig .tc := ⟨.hbm, 160, rfl⟩
abbrev main_call2_v1 : Ref sig .tc := ⟨.hbm, 161, rfl⟩
abbrev main_call2_v2 : Ref sig .tc := ⟨.hbm, 162, rfl⟩
abbrev main_v114 : Ref sig .tc := ⟨.hbm, 163, rfl⟩
abbrev main_cst_19 : Ref sig .tc := ⟨.hbm, 164, rfl⟩
abbrev main_v115 : Ref sig .tc := ⟨.hbm, 165, rfl⟩
abbrev main_cst_20 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_cst_21 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_call3_v0 : Ref sig .tc := ⟨.hbm, 188, rfl⟩
abbrev main_call3_v1 : Ref sig .tc := ⟨.hbm, 189, rfl⟩
abbrev main_call3_cst : Ref sig .tc := ⟨.hbm, 190, rfl⟩
abbrev main_call3_v2 : Ref sig .tc := ⟨.hbm, 191, rfl⟩
abbrev main_call3_v3 : Ref sig .tc := ⟨.hbm, 192, rfl⟩
abbrev main_call3_cst_0 : Ref sig .tc := ⟨.hbm, 193, rfl⟩
abbrev main_call3_v4 : Ref sig .tc := ⟨.hbm, 194, rfl⟩
abbrev main_call3_v5 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩

abbrev nD : Nat := 1
abbrev τ : Topo := Topo.v7x

variable {F : FTy → Type} [FloatOps F]
-- ==== Proof.InProj.Run.lean ====
/- The body of the input projection, run once on whole staging buffers with named contents: at a point that starts
   a row of the grid (column coordinate 0) it normalises the row block into the scratch buffer and writes the gate
   block; at every point it multiplies the scratch buffer by the fetched block of weight rows. -/
module

public import proofs.«01_k».proof.Proof.Gen.KernelIdeal.Frame
public import proofs.«01_k».proof.Proof.Gen.KernelIdeal.Skeleton
public import Idealize.ShloMosaic.Lib.Pipeline.ValueKit.Acc

@[expose] public section

set_option maxRecDepth 16384

noncomputable section

namespace Cert.InProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The gate block of a row block: from the normalised rows `h`, the padded gate weights `w`, and the two rows of
    lane constants. -/
def gates (h : Vec F S1024x2048 .bf16) (w : Vec F S128x2048 .f32) (a : Vec F S1x128 .f32) (b : Vec F S1x128 .f32) :
    FVec F S1024x128 .f32 :=
  k0_pay1 (k0_pay4 h w) (iota .tc S1024x128 32 [1] iota_S1024x128_d1_w32) (k0_pay5 h w) (k0_pay6 a) b

/-- The point starts a row of the grid. -/
abbrev starts (i : grid0.Coords) : Prop := k0_cond1 i = 1#1

/-- Exactly the points whose number is a multiple of the row length. -/
theorem starts_iff : ∀ t : Fin cfg0.N, starts (grid0.coords t) ↔ t.val % 12 = 0 :=
  (fun t => by
    have ht : t.val < 192 := Nat.lt_of_lt_of_eq t.isLt N_0
    have e1 : (grid0.coords t 1).val = t.val / 1 % 12 := Pipeline.Grid.coords_val t 1 (by decide) rfl
    simp only [starts, k0_cond1, e1]
    word_cmp
   : ∀ t : Fin grid0.N, starts (grid0.coords t) ↔ t.val % 12 = 0)

/-- A store over a whole buffer leaves what it stores. -/
theorem read_full {sp : Space} {S : Shape} {e : EltTy} (v : View sig .tc sp S e) (f : v.ty.Contents (Elt F))
    {off : Fin S.rank → Nat} (inb : ∀ a, off a + S.size a ≤ S.size a) (w : S.Idx → Elt F e) (h : off = fun _ => 0) :
    v.read (Elt F) (v.writes (Elt F) f [⟨Rect.unit off S.size inb, w⟩]) = w := by
  subst h; exact View.read_writes_whole v f w

theorem zero2 : (![0, 0] : Fin 2 → Nat) = fun _ => 0 := by decide

set_option maxHeartbeats 1000000 in
/-- The body where a row of the grid starts. -/
theorem run_start (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1024x2048 .f32) (harg4 : arg4.IsWhole) (arg5 : Memref sig .tc .vmem S128x2048 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (hc : starts i)
    (x0 : Vec F S1024x2048 .f32) (x1 : Vec F S1x2048 .f32) (x2 : Vec F S1024x2048 .f32) (x3 : Vec F S128x2048 .f32) (x4 : Vec F S1x128 .f32) (x5 : Vec F S1x128 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay2 i (k0_pay3 x0 x1) x2) ∗ owns (c : Thread nD τ) arg9 fullShare (gates (k0_pay3 x0 x1) x3 x4 x5) ∗ owns (c : Thread nD τ) arg10 fullShare (k0_pay3 x0 x1)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10) K := by
    simp only [cc0_inproj_eq_skeleton]; unfold cc0_inproj_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      rw [read_full _ _ _ _ zero2]
      frame_out
    isplitl [H7]
    · iexists _; isplitr; swap; · iexact H7
      ipureintro
      rw [read_full _ _ _ _ zero2]
      unfold gates
      frame_out
    iexists _; isplitr; swap; · iexact HS0
    ipureintro
    frame_open
    rw [read_full _ _ _ _ zero2]
    frame_out

set_option maxHeartbeats 1000000 in
/-- The body away from a row's start: the scratch buffer and the gate block stay as found. -/
theorem run_later (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1024x2048 .f32) (harg4 : arg4.IsWhole) (arg5 : Memref sig .tc .vmem S128x2048 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (hc : ¬starts i)
    (x0 : Vec F S1024x2048 .f32) (x1 : Vec F S1x2048 .f32) (x2 : Vec F S1024x2048 .f32) (x3 : Vec F S128x2048 .f32) (x4 : Vec F S1x128 .f32) (x5 : Vec F S1x128 .f32) (y : Vec F S1024x128 .f32) (h : Vec F S1024x2048 .bf16)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare y ∗ owns (c : Thread nD τ) arg10 fullShare h
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay2 i h x2) ∗ owns (c : Thread nD τ) arg9 fullShare y ∗ owns (c : Thread nD τ) arg10 fullShare h) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10) K := by
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs0
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      rw [read_full _ _ _ _ zero2]
      frame_out
    isplitl [H7]
    · iexists _; isplitr; · ipureintro; exact harg9.read_unread _
      iexact H7
    iexists _; isplitr; · ipureintro; exact harg10.read_unread _
    iexact HS0

end Cert.InProj

end
-- ==== Proof.InProj.Frame.lean ====
/- The run of the whole input projection. The scratch buffer holds, after any point of a row of the grid, the
   normalised row block that the row's first point wrote; the gate block's staging buffer likewise keeps what the first
   point wrote until the row's last point writes it back. The proof data below name both, and the run concludes with
   every array named. -/
module

public import proofs.«01_k».proof.Proof.InProj.Run
public import Idealize.ShloMosaic.Lib.Claim

@[expose] public section

set_option maxRecDepth 16384

noncomputable section

namespace Cert.InProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The point that starts the row of the grid containing point number `n`. -/
def rowStart (n : ℕ) : Fin cfg0.N := ⟨12 * (n / 12) % 192, lt_of_lt_of_eq (Nat.mod_lt _ (by decide)) N_0.symm⟩

theorem rowStart_self (t : Fin cfg0.N) (h : t.val % 12 = 0) : rowStart t.val = t := by
  have ht : t.val < 192 := Nat.lt_of_lt_of_eq t.isLt N_0
  apply Fin.ext; show 12 * (t.val / 12) % 192 = t.val; omega

theorem rowStart_succ (n : ℕ) (h : (n + 1) % 12 ≠ 0) : rowStart (n + 1) = rowStart n := by
  apply Fin.ext; show 12 * ((n + 1) / 12) % 192 = 12 * (n / 12) % 192
  have : (n + 1) / 12 = n / 12 := by omega
  rw [this]

theorem rowStart_pred (n : ℕ) (h : n % 12 ≠ 0) : rowStart (n - 1) = rowStart n := by
  apply Fin.ext; show 12 * ((n - 1) / 12) % 192 = 12 * (n / 12) % 192
  have : (n - 1) / 12 = n / 12 := by omega
  rw [this]

/-- The normalised row block of the row of the grid containing point number `n`. -/
def rows (c : Dev nD) (n : ℕ) : FVec F S1024x2048 .bf16 := k0_pay3 (iblk m c 0 (rowStart n)) (iblk m c 1 (rowStart n))

/-- The gate block of the row of the grid containing point number `n`. -/
def gateBlock (c : Dev nD) (n : ℕ) : FVec F S1024x128 .f32 :=
  gates (rows m c n) (iblk m c 3 (rowStart n)) (iblk m c 4 (rowStart n)) (iblk m c 5 (rowStart n))

/-- The scratch buffer. -/
abbrev scratch : Memref sig .tc .vmem S1024x2048 .bf16 := Memref.whole cc0_scratch0

/-- What is carried from point to point: between two rows of the grid the scratch buffer at anything, inside a row the
    scratch buffer at the row's normalised block; and the generator register. -/
def carried (c : Dev nD) (n : ℕ) : sProp 𝕄 :=
  if n % 12 = 0 then Pipeline.ΦA spec0 c
  else iprop(owns (c : Thread nD τ) scratch fullShare (rows m c n) ∗ (∃ r, prngReg c r))

theorem class_eq (c : Dev nD) :
    (Pipeline.ΦA spec0 c : sProp 𝕄)
      = iprop((∃ d, owns (c : Thread nD τ) scratch fullShare d) ∗ (∃ r, prngReg c r)) := by
  unfold Pipeline.ΦA; rw [scopedRest0_eq]; simp only [scratch, owns_whole]; try rfl

/-- The proof data: arrays as the region finds them; inputs left at their blocks, the projection block at the product,
    the gate block at the row's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay2 (grid0.coords t) (rows m c t.val) (iblk m c 2 t)
    | ⟨7, _⟩ => gateBlock m c t.val
  Φ t := carried m c t.val
  q _ := fullShare
  owed _ := 0

theorem entry_eq (c : Dev nD) (w : Fin cfg0.W) : (dats m 0 c).A w = V m c (Pipeline.arrRef spec0 w) := by
  dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem left5 (c : Dev nD) (t : Fin cfg0.N) : (dats m 0 c).after 5 t = iblk m c 5 t := by dsimp only [dats]
theorem left6 (c : Dev nD) (t : Fin cfg0.N) :
    (dats m 0 c).after 6 t = k0_pay2 (grid0.coords t) (rows m c t.val) (iblk m c 2 t) := by dsimp only [dats]
theorem left7 (c : Dev nD) (t : Fin cfg0.N) : (dats m 0 c).after 7 t = gateBlock m c t.val := by dsimp only [dats]

theorem finds0 (c : Dev nD) (t : Fin cfg0.N) (d) : (dats m 0 c).before 0 t d = iblk m c 0 t :=
  before0_0_of m (dats m 0 c) (entry_eq m c 0) (left0 m c) t d
theorem finds1 (c : Dev nD) (t : Fin cfg0.N) (d) : (dats m 0 c).before 1 t d = iblk m c 1 t :=
  before0_1_of m (dats m 0 c) (entry_eq m c 1) (left1 m c) t d
theorem finds2 (c : Dev nD) (t : Fin cfg0.N) (d) : (dats m 0 c).before 2 t d = iblk m c 2 t :=
  before0_2_of m (dats m 0 c) (entry_eq m c 2) (left2 m c) t d
theorem finds3 (c : Dev nD) (t : Fin cfg0.N) (d) : (dats m 0 c).before 3 t d = iblk m c 3 t :=
  before0_3_of m (dats m 0 c) (entry_eq m c 3) (left3 m c) t d
theorem finds4 (c : Dev nD) (t : Fin cfg0.N) (d) : (dats m 0 c).before 4 t d = iblk m c 4 t :=
  before0_4_of m (dats m 0 c) (entry_eq m c 4) (left4 m c) t d
theorem finds5 (c : Dev nD) (t : Fin cfg0.N) (d) : (dats m 0 c).before 5 t d = iblk m c 5 t :=
  before0_5_of m (dats m 0 c) (entry_eq m c 5) (left5 m c) t d

/-- The gate block's window is left alone exactly away from a row's start. -/
theorem idle_iff : ∀ t : Fin cfg0.N, cfg0.idle 7 (grid0.coords t) = !(decide (t.val % 12 = 0)) :=
  (fun t => by
    have h := starts_iff t
    show (!(k0_cond1 (grid0.coords t) == 1#1)) = _
    by_cases h0 : t.val % 12 = 0
    · rw [show k0_cond1 (grid0.coords t) = 1#1 from h.mpr h0]; simp [h0]
    · have : ¬ (k0_cond1 (grid0.coords t) = 1#1) := fun e => h0 (h.mp e)
      simp [h0, this] : ∀ t : Fin grid0.N, idle0 7 (grid0.coords t) = !(decide (t.val % 12 = 0)))

theorem idle_of (t : Fin cfg0.N) (h : t.val % 12 ≠ 0) : cfg0.idle 7 (grid0.coords t) = true := by
  rw [idle_iff]; simp [h]
theorem live_of (t : Fin cfg0.N) (h : t.val % 12 = 0) : cfg0.idle 7 (grid0.coords t) = false := by
  rw [idle_iff]; simp [h]

theorem flush7_of (t : Fin cfg0.N) (h : t.val % 12 ≠ 11) : (cfg0.win 7).flush t = false := by
  cases e : (cfg0.win 7).flush t
  · rfl
  · exact absurd ((flush0_7 t).mp e) h

/-- Inside a row of the grid the gate block's buffer holds the row's gate block. -/
theorem finds7 (c : Dev nD) : ∀ (n : ℕ) (t : Fin cfg0.N), t.val = n → t.val % 12 ≠ 0 → ∀ d,
    (dats m 0 c).before 7 t d = gateBlock m c t.val := by
  intro n
  induction n with
  | zero => intro t ht h; exact absurd (by rw [ht]) h
  | succ n ih =>
    intro t ht h d
    have ht' : t.val < 192 := Nat.lt_of_lt_of_eq t.isLt N_0
    have hp : t.val ≠ 0 := by omega
    rw [(dats m 0 c).before_of_pos 7 t hp rfl, flush7_of _ (show (t.val - 1) % 12 ≠ 11 by omega), if_neg Bool.false_ne_true]
    have hrow : gateBlock m c (t.val - 1) = gateBlock m c t.val := by
      unfold gateBlock rows; rw [rowStart_pred _ h]
    unfold Dat.left
    by_cases h0 : (t.val - 1) % 12 = 0
    · have e := live_of ⟨t.val - 1, Nat.lt_of_le_of_lt (Nat.sub_le _ _) t.isLt⟩ h0
      rw [e]
      dsimp only
      rw [← hrow]
      exact left7 m c _
    · have e := idle_of ⟨t.val - 1, Nat.lt_of_le_of_lt (Nat.sub_le _ _) t.isLt⟩ h0
      rw [e]
      dsimp only
      rw [ih ⟨t.val - 1, Nat.lt_of_le_of_lt (Nat.sub_le _ _) t.isLt⟩ (by show t.val - 1 = n; omega) h0]
      exact hrow

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (dats m 0 c).leavesExact 7 t)

theorem carried_before (c : Dev nD) (t : Fin cfg0.N) : (dats m 0 c).Φ t.castSucc = carried m c t.val := by
  dsimp only [dats]; rfl
theorem carried_after (c : Dev nD) (t : Fin cfg0.N) : (dats m 0 c).Φ t.succ = carried m c (t.val + 1) := by
  dsimp only [dats]; rfl

theorem carried_inside (c : Dev nD) (n : ℕ) (h : n % 12 ≠ 0) :
    carried m c n = iprop(owns (c : Thread nD τ) scratch fullShare (rows m c n) ∗ (∃ r, prngReg c r)) := if_neg h
theorem carried_between (c : Dev nD) (n : ℕ) (h : n % 12 = 0) :
    carried m c n = iprop((∃ d, owns (c : Thread nD τ) scratch fullShare d) ∗ (∃ r, prngReg c r)) :=
  (if_pos h).trans (class_eq c)

set_option maxHeartbeats 1600000 in
/-- The body at any point. -/
theorem sound (c : Dev nD) (t : Fin cfg0.N) :
    pre m c t ⊢ wp frame (wpE (defs₀ (F := F)) Variants.none c none) Set.univ (bodyAt0 t) (fun _ => post m c t) := by
  unfold pre post bodyAt0
  simp only [finds0, finds1, finds2, finds3, finds4, finds5, left0, left1, left2, left3, left4, left5, left6]
  rw [show (dats m 0 c).owesAt () t.succ = (dats m 0 c).owesAt () t.castSucc from rfl, carried_before, carried_after]
  have hN : t.val < 192 := lt_of_lt_of_eq t.isLt (show cfg0.N = 192 from N_0)
  by_cases h0 : t.val % 12 = 0
  · rw [carried_between m c _ h0, carried_inside m c (t.val + 1) (by omega)]
    rw [show (dats m 0 c).leavesExact 7 t = owns (c : Thread nD τ) (st0_7 t) fullShare ((dats m 0 c).after 7 t) from by
      unfold Dat.leavesExact; rw [live_of t h0], left7]
    have hr : rows m c t.val = k0_pay3 (iblk m c 0 t) (iblk m c 1 t) := by unfold rows; rw [rowStart_self t h0]
    have hr' : rows m c (t.val + 1) = k0_pay3 (iblk m c 0 t) (iblk m c 1 t) := by
      rw [← hr]; unfold rows; rw [rowStart_succ t.val (by omega)]
    have hg : gateBlock m c t.val = gates (k0_pay3 (iblk m c 0 t) (iblk m c 1 t)) (iblk m c 3 t) (iblk m c 4 t) (iblk m c 5 t) := by
      unfold gateBlock; rw [hr, rowStart_self t h0]
    rw [hg, hr', hr]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_start c (grid0.coords t) _ _ _ _ _ _ _ _ _ _ _ _ _ _ _ _ _ _ ((starts_iff t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hb : ∀ d, (dats m 0 c).before 7 t d = gateBlock m c t.val := finds7 m c t.val t rfl h0
    rw [carried_inside m c _ h0]
    have hr : rows m c (t.val + 1) = rows m c t.val ∨ (t.val + 1) % 12 = 0 := by
      by_cases h : (t.val + 1) % 12 = 0
      · exact .inr h
      · left; unfold rows; rw [rowStart_succ t.val h]
    have hlast : iprop(owns (c : Thread nD τ) scratch fullShare (rows m c t.val) ∗ (∃ r, prngReg c r)) ⊢ carried m c (t.val + 1) := by
      by_cases h : (t.val + 1) % 12 = 0
      · rw [carried_between m c _ h]
        iintro ⟨HS0, Hg⟩
        isplitl [HS0]
        · iexists _; iexact HS0
        iexact Hg
      · rw [carried_inside m c _ h, hr.resolve_right h]
    have hleaf : owns (c : Thread nD τ) (st0_7 t) fullShare (gateBlock m c t.val) ⊢ ((dats m 0 c).leavesExact 7 t : sProp 𝕄) := by
      by_cases h : t.val % 12 = 11
      · rw [show (dats m 0 c).leavesExact 7 t = owns (c : Thread nD τ) (st0_7 t) fullShare ((dats m 0 c).after 7 t) from by
          unfold Dat.leavesExact; rw [idle_of t h0, (flush0_7 t).mpr h], left7]
      · rw [(dats m 0 c).leavesExact_idle 7 t (idle_of t h0) (flush7_of t h)]
        simp only [hb]
        iintro H
        iexists (gateBlock m c t.val)
        iexact H
    simp only [hb]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_later c (grid0.coords t) _ _ _ _ _ _ _ _ _ _ _ _ _ _ _ _ _ _ (fun h => h0 ((starts_iff t).mp h)) (iblk m c 0 t) (iblk m c 1 t) (iblk m c 2 t) (iblk m c 3 t) (iblk m c 4 t) (iblk m c 5 t) (gateBlock m c t.val) (rows m c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    iintro ⟨H0, H1, H2, H3, H4, H5, H6, H7, HS0⟩
    isplitl [HS0 Hg]
    · iapply hlast
      isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply hleaf
    iexact H7

/-- The body table's row at a point. -/
theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (sound m c t) rfl .rfl fun _ => .rfl

theorem carried_first (c : Dev nD) : (Pipeline.ΦA spec0 c : sProp 𝕄) ⊢ (dats m 0 c).Φ 0 := by
  rw [show (dats m 0 c).Φ 0 = carried m c 0 from by dsimp only [dats]; rfl, carried_between m c 0 rfl, class_eq]

theorem carried_last (c : Dev nD) : (dats m 0 c).Φ (Fin.last cfg0.N) ⊢ (Pipeline.ΦA spec0 c : sProp 𝕄) := by
  rw [show (dats m 0 c).Φ (Fin.last cfg0.N) = carried m c cfg0.N from by dsimp only [dats]; rfl,
    carried_between m c cfg0.N (by rw [show cfg0.N = 192 from N_0]), class_eq]

set_option backward.isDefEq.respectTransparency.types false in
/-- The launch: every array of the pipeline ends at what the proof data make of it, every other buffer as the region
    found it, every counter at zero. -/
theorem launch : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := entry_eq m)
    (hin := carried_first m) (hout := carried_last m)

theorem arrays : θ_run defs (onTc (τ := τ) (main (F := F))) (s₀ m ρ) (Pipeline.FramePost cfgs (dats m) 0 (V m)) :=
  (θ_run defs _ _).mono (fun _ h => h.1) (launch m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (entry_eq m) (arrays m ρ)

/-- The frame of the idealized input projection. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (launch m ρ))

end Cert.InProj

end
-- ==== Proof.InProj.Entry.lean ====
/- What the host operations before the launch leave in the arrays the windows read. -/
module

public import proofs.«01_k».proof.Proof.InProj.Frame
public import Idealize.ShloMosaic.Lib.Pipeline.ValueKit

@[expose] public section

set_option maxRecDepth 16384

noncomputable section

namespace Cert.InProj

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ)

/-- The pads fill with the number zero. -/
theorem zero_fill : (FloatOps.sitofp .f32 (0#32 : BitVec 32) : Ideal .f32) = (0 : EReal) := by
  show (((0#32 : BitVec 32).toInt : ℝ) : EReal) = 0
  simp

/-- The layer's input as rows. -/
theorem entry_x (c : Dev nD) (r : Fin 16384) (k : Fin 2048) :
    (V m c main_v4 : FVec Ideal S16384x2048 .f32) (ix2 r k)
      = (m ((c : Thread nD τ).loc main_arg0) : FVec Ideal S8x2048x2048 .f32)
          (ix3 (⟨r.val / 2048, by omega⟩ : Fin 8) (⟨r.val % 2048, by omega⟩ : Fin 2048) k) := by
  show StableHlo.after (List.flatten [hostOps0, hostOps0_1, hostOps0_2, hostOps0_3, hostOps0_4, hostOps0_5, hostOps0_6])
    (fun b => m (c, b)) (Proc.devRef .tc main_v4) _ = _
  simp only [hostOps0, hostOps0_1, hostOps0_2, hostOps0_3, hostOps0_4, hostOps0_5, hostOps0_6, List.flatten_cons,
    List.flatten_nil, List.append_nil, List.cons_append, List.nil_append, StableHlo.TRef.binary, StableHlo.TRef.nullary,
    StableHlo.TRef.unary, StableHlo.TRef.toBuf, StableHlo.TRef.ofBuf, cast_eq]
  after_results_simp
  pointwise

/-- The norm's weights as a row. -/
theorem entry_norm (c : Dev nD) (k : Fin 2048) :
    (V m c main_v8 : FVec Ideal S1x2048 .f32) (ix2 (0 : Fin 1) k)
      = (m ((c : Thread nD τ).loc main_arg1) : FVec Ideal S1x2048 .f32) (ix2 (0 : Fin 1) k) := by
  show StableHlo.after (List.flatten [hostOps0, hostOps0_1, hostOps0_2, hostOps0_3, hostOps0_4, hostOps0_5, hostOps0_6])
    (fun b => m (c, b)) (Proc.devRef .tc main_v8) _ = _
  simp only [hostOps0, hostOps0_1, hostOps0_2, hostOps0_3, hostOps0_4, hostOps0_5, hostOps0_6, List.flatten_cons,
    List.flatten_nil, List.append_nil, List.cons_append, List.nil_append, StableHlo.TRef.binary, StableHlo.TRef.nullary,
    StableHlo.TRef.unary, StableHlo.TRef.toBuf, StableHlo.TRef.ofBuf, cast_eq]
  after_results_simp
  pointwise

/-- The projection's weights, transposed. -/
theorem entry_w (c : Dev nD) (n : Fin 12304) (k : Fin 2048) :
    (V m c main_v5 : FVec Ideal S12304x2048 .f32) (ix2 n k)
      = (m ((c : Thread nD τ).loc main_arg2) : FVec Ideal S1x2048x12304 .f32) (ix3 (0 : Fin 1) k n) := by
  show StableHlo.after (List.flatten [hostOps0, hostOps0_1, hostOps0_2, hostOps0_3, hostOps0_4, hostOps0_5, hostOps0_6])
    (fun b => m (c, b)) (Proc.devRef .tc main_v5) _ = _
  simp only [hostOps0, hostOps0_1, hostOps0_2, hostOps0_3, hostOps0_4, hostOps0_5, hostOps0_6, List.flatten_cons,
    List.flatten_nil, List.append_nil, List.cons_append, List.nil_append, StableHlo.TRef.binary, StableHlo.TRef.nullary,
    StableHlo.TRef.unary, StableHlo.TRef.toBuf, StableHlo.TRef.ofBuf, cast_eq]
  after_results_simp
  pointwise

/-- The weights of the sixteen gate lanes, the other lanes zero. -/
theorem entry_gate_w (c : Dev nD) (q : Fin 128) (k : Fin 2048) :
    (V m c main_v7 : FVec Ideal S128x2048 .f32) (ix2 q k)
      = if h : q.val < 16 then
          (m ((c : Thread nD τ).loc main_arg2) : FVec Ideal S1x2048x12304 .f32) (ix3 (0 : Fin 1) k (⟨4096 + q.val, by omega⟩ : Fin 12304))
        else (0 : EReal) := by
  show StableHlo.after (List.flatten [hostOps0, hostOps0_1, hostOps0_2, hostOps0_3, hostOps0_4, hostOps0_5, hostOps0_6])
    (fun b => m (c, b)) (Proc.devRef .tc main_v7) _ = _
  simp only [hostOps0, hostOps0_1, hostOps0_2, hostOps0_3, hostOps0_4, hostOps0_5, hostOps0_6, List.flatten_cons,
    List.flatten_nil, List.append_nil, List.cons_append, List.nil_append, StableHlo.TRef.binary, StableHlo.TRef.nullary,
    StableHlo.TRef.unary, StableHlo.TRef.toBuf, StableHlo.TRef.ofBuf, cast_eq]
  after_results_simp
  pointwise
  rw [zero_fill]

/-- The decay rates on their eight lanes, the other lanes zero. -/
theorem entry_rate (c : Dev nD) (q : Fin 128) :
    (V m c main_v10 : FVec Ideal S1x128 .f32) (ix2 (0 : Fin 1) q)
      = if h : 8 ≤ q.val ∧ q.val - 8 < 8 then
          (m ((c : Thread nD τ).loc main_arg3) : FVec Ideal S1x8 .f32) (ix2 (0 : Fin 1) (⟨q.val - 8, h.2⟩ : Fin 8))
        else (0 : EReal) := by
  show StableHlo.after (List.flatten [hostOps0, hostOps0_1, hostOps0_2, hostOps0_3, hostOps0_4, hostOps0_5, hostOps0_6])
    (fun b => m (c, b)) (Proc.devRef .tc main_v10) _ = _
  simp only [hostOps0, hostOps0_1, hostOps0_2, hostOps0_3, hostOps0_4, hostOps0_5, hostOps0_6, List.flatten_cons,
    List.flatten_nil, List.append_nil, List.cons_append, List.nil_append, StableHlo.TRef.binary, StableHlo.TRef.nullary,
    StableHlo.TRef.unary, StableHlo.TRef.toBuf, StableHlo.TRef.ofBuf, cast_eq]
  after_results_simp
  pointwise
  rw [zero_fill]

/-- The time-step biases on their eight lanes, the other lanes zero. -/
theorem entry_bias (c : Dev nD) (q : Fin 128) :
    (V m c main_v12 : FVec Ideal S1x128 .f32) (ix2 (0 : Fin 1) q)
      = if h : 8 ≤ q.val ∧ q.val - 8 < 8 then
          (m ((c : Thread nD τ).loc main_arg4) : FVec Ideal S1x8 .f32) (ix2 (0 : Fin 1) (⟨q.val - 8, h.2⟩ : Fin 8))
        else (0 : EReal) := by
  show StableHlo.after (List.flatten [hostOps0, hostOps0_1, hostOps0_2, hostOps0_3, hostOps0_4, hostOps0_5, hostOps0_6])
    (fun b => m (c, b)) (Proc.devRef .tc main_v12) _ = _
  simp only [hostOps0, hostOps0_1, hostOps0_2, hostOps0_3, hostOps0_4, hostOps0_5, hostOps0_6, List.flatten_cons,
    List.flatten_nil, List.append_nil, List.cons_append, List.nil_append, StableHlo.TRef.binary, StableHlo.TRef.nullary,
    StableHlo.TRef.unary, StableHlo.TRef.toBuf, StableHlo.TRef.ofBuf, cast_eq]
  after_results_simp
  pointwise
  rw [zero_fill]

end Cert.InProj
-- ==== Proof.InProj.Scalars.lean ====
/- The laws of single numbers under the kernel's arithmetic: the gate through the hyperbolic tangent is the logistic
   function, the query scale is the two divisions, and a lane with no gate in it holds minus the logarithm of two. -/
module

public import Idealize.ShloMosaic.Lib.Pipeline.ValueKit

@[expose] public section

set_option maxRecDepth 16384

noncomputable section

namespace Cert.Scalars

open Idealize.ShloMosaic

theorem half_val : Ideal.ofBits .f32 0x3F000000#32 = ((1 / 2 : ℝ) : EReal) := by
  simp [Ideal.ofBits, Ideal.ieee, -EReal.coe_mul]; norm_num

theorem two_val : Ideal.ofBits .f32 0x40000000#32 = ((2 : ℝ) : EReal) := by
  simp [Ideal.ofBits, Ideal.ieee, -EReal.coe_mul]; norm_num

theorem width_val : Ideal.ofBits .f32 0x43000000#32 = ((128 : ℝ) : EReal) := by
  simp [Ideal.ofBits, Ideal.ieee, -EReal.coe_mul]; norm_num

/-- The logistic function of a real, by the hyperbolic tangent of its half. -/
theorem real_gate (r : ℝ) : 1 / 2 * Real.tanh (1 / 2 * r) + 1 / 2 = (1 + Real.exp (-r))⁻¹ := by
  have e : Real.exp (-r) = Real.exp (-(1 / 2 * r)) * Real.exp (-(1 / 2 * r)) := by
    rw [← Real.exp_add]; congr 1; ring
  have i : Real.exp (1 / 2 * r) = (Real.exp (-(1 / 2 * r)))⁻¹ := by rw [Real.exp_neg, inv_inv]
  rw [Real.tanh_eq_sinh_div_cosh, Real.sinh_eq, Real.cosh_eq, e, i]
  have p : 0 < Real.exp (-(1 / 2 * r)) := Real.exp_pos _
  generalize Real.exp (-(1 / 2 * r)) = u at p ⊢
  have q : 0 < 1 + u * u := by positivity
  field_simp
  ring

/-- The gate written with the hyperbolic tangent is the logistic function, at the infinities as well. -/
theorem gate_eq (z : EReal) :
    Ideal.ofBits .f32 0x3F000000#32 * Ideal.tanh (Ideal.ofBits .f32 0x3F000000#32 * z) + Ideal.ofBits .f32 0x3F000000#32
      = Ideal.div 1 (1 + Ideal.exp (-z)) := by
  rw [half_val]
  induction z using EReal.rec with
  | bot =>
    have h : ((1 / 2 : ℝ) : EReal) * ⊥ = ⊥ := EReal.coe_mul_bot_of_pos (by norm_num)
    rw [h, Ideal.tanh_bot, EReal.neg_bot, Ideal.exp_top, show (1 : EReal) + ⊤ = ⊤ from rfl, Ideal.div, if_neg (by simp),
      EReal.inv_top, mul_zero, show (-1 : EReal) = ((-1 : ℝ) : EReal) from rfl, ← EReal.coe_mul, ← EReal.coe_add]
    norm_num
  | top =>
    have h : ((1 / 2 : ℝ) : EReal) * ⊤ = ⊤ := EReal.coe_mul_top_of_pos (by norm_num)
    rw [h, Ideal.tanh_top, EReal.neg_top, Ideal.exp_bot, mul_one, add_zero, Ideal.div, if_neg (by simp), ← EReal.coe_add]
    norm_num
  | coe r =>
    rw [← EReal.coe_mul, Ideal.tanh_coe, ← EReal.coe_mul, ← EReal.coe_add, real_gate, ← EReal.coe_neg, Ideal.exp_coe,
      show (1 : EReal) = ((1 : ℝ) : EReal) from rfl, ← EReal.coe_add,
      Ideal.div_coe (by have := Real.exp_pos (-r); positivity), ← EReal.coe_mul, one_mul, one_div]

/-- Dividing by the root of the width and by the logarithm of two is the multiplication by one constant. -/
theorem scale_eq (z : EReal) :
    Ideal.div (Ideal.div z (Ideal.sqrt (Ideal.ofBits .f32 0x43000000#32))) (Ideal.log (Ideal.ofBits .f32 0x40000000#32))
      = z * (((Real.log 2)⁻¹ * (Real.sqrt 128)⁻¹ : ℝ) : EReal) := by
  have l : Real.log 2 ≠ 0 := (Real.log_pos (by norm_num)).ne'
  have s : Real.sqrt 128 ≠ 0 := (Real.sqrt_pos.mpr (by norm_num)).ne'
  rw [width_val, two_val, Ideal.sqrt_coe, Ideal.log_coe, if_neg (by norm_num), if_neg (by norm_num), Ideal.div_coe s,
    Ideal.div_coe l, mul_assoc, ← EReal.coe_mul, one_div, one_div, mul_comm (Real.sqrt 128)⁻¹]

/-- The decay's second factor in the kernel's spelling and in the reference's. -/
theorem soft_eq (z : EReal) : (0 : EReal) - max z (-z) = -max z (-z) := by rw [zero_sub]

/-- A lane fed by zeros: minus one times the logarithm of two. -/
theorem idle_eq :
    (0 - Ideal.exp 0) * (max (0 : EReal) 0 + Ideal.log1p (Ideal.exp (0 - max (0 : EReal) (-0))))
      = -Ideal.log (Ideal.ofBits .f32 0x40000000#32) := by
  have e : Ideal.exp 0 = 1 := by
    rw [show (0 : EReal) = ((0 : ℝ) : EReal) from rfl, Ideal.exp_coe, Real.exp_zero]; rfl
  rw [neg_zero, max_self, sub_zero, zero_add, zero_sub, e, two_val, Ideal.log1p,
    show (1 : EReal) + 1 = ((2 : ℝ) : EReal) by rw [← EReal.coe_one, ← EReal.coe_add]; norm_num, neg_mul, one_mul]

end Cert.Scalars
-- ==== Proof.InProj.Points.lean ====
/- The arithmetic of one grid point of the input projection, read at one element of its block: the normalised row
   block, the product with the weight tile and the gate block. -/
module

public import proofs.«01_k».proof.Proof.InProj.Frame
public import proofs.«01_k».proof.Proof.InProj.Scalars
public import proofs.«01_k».proof.Proof.Gen.ReferenceIdeal.Read
public import Idealize.ShloMosaic.Lib.Pipeline.ValueKit

@[expose] public section

set_option maxRecDepth 16384

noncomputable section

namespace Cert.InProj

open Cert.KernelIdeal Cert.KernelIdeal.Gen
open Cert.ReferenceIdeal.Read
open Idealize.ShloMosaic Idealize.ShloMosaic.TcCoe Idealize.ShloMosaic.Tactic Idealize.SL.Sem

/-- A row block normalised by the kernel holds the reference's normalised rows. -/
theorem normed (X : FVec Ideal S1024x2048 .f32) (W : FVec Ideal S1x2048 .f32)
    (x0 : FVec Ideal Cert.ReferenceIdeal.S8x2048x2048 .f32) (x1 : FVec Ideal Cert.ReferenceIdeal.S1x2048 .f32)
    (p : Fin 1024) (a : Fin 8) (b : Fin 2048)
    (hX : ∀ k : Fin 2048, X (ix2 p k) = x0 (ix3 a b k)) (hW : ∀ k : Fin 2048, W (ix2 (0 : Fin 1) k) = x1 (ix2 (0 : Fin 1) k))
    (k : Fin 2048) : k0_pay3 (F := Ideal) X W (ix2 p k) = val_main_v13 (F := Ideal) x0 x1 (ix3 a b k) := by
  pointwise [k0_pay3, val_main_v13, val_main_v10, val_main_v12, val_main_v11, val_main_v9, val_main_v8, val_main_v7,
    val_main_v6, val_main_v5, val_main_v4, val_main_v3, val_main_v2, val_main_v1, val_main_v0, val_main_cst,
    val_main_cst_0, val_main_cst_1]
  simp only [hX, hW]

/-- The reference's product of the normalised rows with the weights, read at one element. -/
theorem product (x0 : FVec Ideal Cert.ReferenceIdeal.S8x2048x2048 .f32) (x1 : FVec Ideal Cert.ReferenceIdeal.S1x2048 .f32)
    (x2 : FVec Ideal Cert.ReferenceIdeal.S1x2048x12304 .f32) (a : Fin 8) (b : Fin 2048) (n : Fin 12304) :
    val_main_v15 (F := Ideal) x0 x1 x2 (ix3 a b n)
      = ∑ k : Fin 2048, val_main_v13 (F := Ideal) x0 x1 (ix3 a b k) * x2 (ix3 (0 : Fin 1) k n) := by
  pointwise [val_main_v15, val_main_v14]

/-- The factor that the kernel puts on the columns of column block `j`. -/
def factor (j : ℕ) : EReal := if j = 4 then (((Real.log 2)⁻¹ * (Real.sqrt 128)⁻¹ : ℝ) : EReal) else 1

theorem factor_val (i : grid0.Coords) :
    Scalar.select (Scalar.cmpi CmpIPredicate.eq (BitVec.ofNat 32 (i 1).val) 4#32)
      (Named.named (F := Ideal) κ "qscale" (φ := .f32) 0x3E0293EE#32) (1 : EReal) = factor (i 1).val := by
  have hi : (i 1).val < 12 := (i 1).isLt
  have hn : (Named.named (F := Ideal) κ "qscale" (φ := .f32) 0x3E0293EE#32 : EReal)
      = (((Real.log 2)⁻¹ * (Real.sqrt 128)⁻¹ : ℝ) : EReal) := IdealRules.named_const.ideal_named_scalar _ _ _ _ rfl
  rw [hn]
  generalize (i 1).val = n at hi
  unfold factor
  interval_cases n <;> rfl

/-- One element of an output tile. -/
theorem tile (i : grid0.Coords) (h : FVec Ideal S1024x2048 .bf16) (w : FVec Ideal S1024x2048 .f32) (p q : Fin 1024) :
    k0_pay2 (F := Ideal) i h w (ix2 p q)
      = (∑ k : Fin 2048, h (ix2 p k) * w (ix2 q k)) * factor (i 1).val := by
  rw [← factor_val]
  pointwise [k0_pay2]

/-- One element of the gate block, from its dot product `s` and its lane's two rows. -/
def gateAt (q : ℕ) (s a b : EReal) : EReal :=
  if q < 8 then
    Ideal.ofBits .f32 0x3F000000#32 * Ideal.tanh (Ideal.ofBits .f32 0x3F000000#32 * s) + Ideal.ofBits .f32 0x3F000000#32
  else (0 - Ideal.exp a) * (max (s + b) 0 + Ideal.log1p (Ideal.exp (0 - max (s + b) (-(s + b)))))

theorem gate (h : FVec Ideal S1024x2048 .bf16) (w : FVec Ideal S128x2048 .f32) (a b : FVec Ideal S1x128 .f32)
    (p : Fin 1024) (q : Fin 128) :
    gates (F := Ideal) h w a b (ix2 p q)
      = gateAt q.val (∑ k : Fin 2048, h (ix2 p k) * w (ix2 q k)) (a (ix2 (0 : Fin 1) q)) (b (ix2 (0 : Fin 1) q)) := by
  pointwise [gates, k0_pay1, k0_pay4, k0_pay5, k0_pay6]
  simp only [Ideal.absf_def]
  have lane : IntOp.cmpi CmpIPredicate.slt (BitVec.ofNat 32 q.val) 8#32 = if q.val < 8 then 1#1 else 0#1 :=
    (by decide +kernel : ∀ q : Fin 128, IntOp.cmpi CmpIPredicate.slt (BitVec.ofNat 32 q.val) 8#32 = if q.val < 8 then 1#1 else 0#1) q
  rw [lane]
  unfold gateAt
  by_cases hq : q.val < 8
  · rw [if_pos hq, if_pos hq]; rfl
  · rw [if_neg hq, if_neg hq]; rfl

end Cert.InProj
-- ==== Proof.InProj.Target.lean ====
/- The reference's two results of the input projection, read at one element: a column of the product with the column
   block's factor, and a gate lane. -/
module

public import proofs.«01_k».proof.Proof.InProj.Points

@[expose] public section

set_option maxRecDepth 16384

noncomputable section

namespace Cert.InProj

open Cert.ReferenceIdeal
open Cert.ReferenceIdeal.Read
open Idealize.ShloMosaic Idealize.ShloMosaic.TcCoe Idealize.ShloMosaic.Tactic Idealize.SL.Sem

variable (x0 : FVec Ideal S8x2048x2048 .f32) (x1 : FVec Ideal S1x2048 .f32) (x2 : FVec Ideal S1x2048x12304 .f32)
  (x3 x4 : FVec Ideal S1x8 .f32)

/-- The product's column under output column `C`: the sixteen gate columns are left out. -/
def column (C : Fin 12288) : Fin 12304 := ⟨C.val + if C.val < 4096 then 0 else 16, by split_ifs <;> omega⟩

/-- The product at row `R` of the rows flattened. -/
def at_row (R : Fin 16384) (n : Fin 12304) : EReal :=
  val_main_v15 (F := Ideal) x0 x1 x2 (ix3 (⟨R.val / 2048, by omega⟩ : Fin 8) (⟨R.val % 2048, by omega⟩ : Fin 2048) n)

theorem at_row_of (R : Fin 16384) (n n' : Fin 12304) (h : n.val = n'.val) : at_row x0 x1 x2 R n = at_row x0 x1 x2 R n' := by
  rw [Fin.ext h]

theorem at_row_fold (R : Fin 16384) (n : Fin 12304) (h : R.val / 2048 < 8) (h' : R.val % 2048 < 2048) :
    val_main_v15 (F := Ideal) x0 x1 x2 (ix3 (⟨R.val / 2048, h⟩ : Fin 8) (⟨R.val % 2048, h'⟩ : Fin 2048) n)
      = at_row x0 x1 x2 R n := rfl

/-- The scaled queries. -/
theorem scaled (a : Fin 8) (b : Fin 2048) (k : Fin 1024) :
    val_main_v32 (F := Ideal) x0 x1 x2 (ix3 a b k)
      = val_main_v15 (F := Ideal) x0 x1 x2 (ix3 a b (⟨4112 + k.val, by omega⟩ : Fin 12304))
        * (((Real.log 2)⁻¹ * (Real.sqrt 128)⁻¹ : ℝ) : EReal) := by
  pointwise [val_main_v32, val_main_v29, val_main_v24, val_main_v20, val_main_v31, val_main_v30, val_main_v28,
    val_main_v27, val_main_cst_2, val_main_cst_3]
  exact Cert.Scalars.scale_eq _

/-- The eight pieces laid side by side are one row of the product, the queries scaled. -/
theorem pieces (f : Fin 12304 → EReal) (C : Fin 12288) :
    (if h : C.val < 3072 then f ⟨C.val, by omega⟩
      else if h : C.val - 3072 < 1024 then f ⟨3072 + (C.val - 3072), by omega⟩
      else if h : C.val - 3072 - 1024 < 1024 then
        f ⟨4112 + (C.val - 3072 - 1024), by omega⟩ * (((Real.log 2)⁻¹ * (Real.sqrt 128)⁻¹ : ℝ) : EReal)
      else if h : C.val - 3072 - 1024 - 1024 < 1024 then f ⟨4112 + (1024 + (C.val - 3072 - 1024 - 1024)), by omega⟩
      else if h : C.val - 3072 - 1024 - 1024 - 1024 < 1024 then
        f ⟨4112 + (2048 + (C.val - 3072 - 1024 - 1024 - 1024)), by omega⟩
      else if h : C.val - 3072 - 1024 - 1024 - 1024 - 1024 < 1024 then
        f ⟨7184 + (C.val - 3072 - 1024 - 1024 - 1024 - 1024), by omega⟩
      else if h : C.val - 3072 - 1024 - 1024 - 1024 - 1024 - 1024 < 2048 then
        f ⟨8208 + (C.val - 3072 - 1024 - 1024 - 1024 - 1024 - 1024), by omega⟩
      else f ⟨10256 + (C.val - 3072 - 1024 - 1024 - 1024 - 1024 - 1024 - 2048), by omega⟩)
    = f (column C) * factor (C.val / 1024) := by
  have hC : C.val < 12288 := C.isLt
  have read : ∀ n n' : Fin 12304, n.val = n'.val → f n = f n' := fun n n' h => by rw [Fin.ext h]
  have e : (column C).val = C.val + if C.val < 4096 then 0 else 16 := rfl
  unfold factor
  split_ifs at e ⊢ <;> first
    | (exfalso; omega)
    | (rw [mul_one]; exact read _ _ (by rw [e]; dsimp only; omega))
    | exact congrArg (· * _) (read _ _ (by rw [e]; dsimp only; omega))

/-- The projection's result at one element. -/
theorem projected (R : Fin 16384) (C : Fin 12288) :
    val_main_v56 (F := Ideal) x0 x1 x2 (ix2 R C) = at_row x0 x1 x2 R (column C) * factor (C.val / 1024) := by
  pointwise [val_main_v56, val_main_v55, val_main_v50, val_main_v16, val_main_v17, val_main_v25, val_main_v26,
    val_main_v20, val_main_v21, val_main_v22, val_main_v23]
  simp only [scaled, at_row_fold]
  exact pieces (at_row x0 x1 x2 R) C

/-- The three groups of lanes, from one row of the product and the two rows of parameters. -/
theorem lanes (f : Fin 12304 → EReal) (u v : Fin 8 → EReal) (q : Fin 128) :
    (if h : q.val < 8 then Ideal.div 1 (1 + Ideal.exp (-f ⟨4096 + q.val, by omega⟩))
      else if h : q.val - 8 < 8 then
        -Ideal.exp (u ⟨q.val - 8, h⟩) *
          (max (f ⟨4104 + (q.val - 8), by omega⟩ + v ⟨q.val - 8, h⟩) 0 +
            Ideal.log1p (Ideal.exp (-max (f ⟨4104 + (q.val - 8), by omega⟩ + v ⟨q.val - 8, h⟩)
              (-(f ⟨4104 + (q.val - 8), by omega⟩ + v ⟨q.val - 8, h⟩)))))
      else -Ideal.log (Ideal.ofBits .f32 0x40000000#32))
    = gateAt q.val (if h : q.val < 16 then f ⟨4096 + q.val, by omega⟩ else 0)
        (if h : 8 ≤ q.val ∧ q.val - 8 < 8 then u ⟨q.val - 8, h.2⟩ else 0)
        (if h : 8 ≤ q.val ∧ q.val - 8 < 8 then v ⟨q.val - 8, h.2⟩ else 0) := by
  have hq : q.val < 128 := q.isLt
  have read : ∀ n n' : Fin 12304, n.val = n'.val → f n = f n' := fun n n' h => by rw [Fin.ext h]
  unfold gateAt
  by_cases h8 : q.val < 8
  · rw [dif_pos h8, if_pos h8, dif_pos (show q.val < 16 by omega), Cert.Scalars.gate_eq]
  · rw [dif_neg h8, if_neg h8]
    by_cases h16 : q.val - 8 < 8
    · rw [dif_pos h16, dif_pos (show q.val < 16 by omega), dif_pos (show 8 ≤ q.val ∧ q.val - 8 < 8 by omega),
        dif_pos (show 8 ≤ q.val ∧ q.val - 8 < 8 by omega),
        read ⟨4096 + q.val, by omega⟩ ⟨4104 + (q.val - 8), by omega⟩ (by dsimp only; omega), zero_sub, zero_sub]
    · rw [dif_neg h16, dif_neg (show ¬q.val < 16 by omega), dif_neg (show ¬(8 ≤ q.val ∧ q.val - 8 < 8) by omega),
        dif_neg (show ¬(8 ≤ q.val ∧ q.val - 8 < 8) by omega), add_zero]
      exact Cert.Scalars.idle_eq.symm

/-- The gates' result at one lane. -/
theorem gated (R : Fin 16384) (q : Fin 128) :
    val_main_v57 (F := Ideal) x0 x1 x2 x3 x4 (ix2 R q)
      = gateAt q.val (if h : q.val < 16 then at_row x0 x1 x2 R (⟨4096 + q.val, by omega⟩ : Fin 12304) else 0)
          (if h : 8 ≤ q.val ∧ q.val - 8 < 8 then x3 (ix2 (0 : Fin 1) (⟨q.val - 8, h.2⟩ : Fin 8)) else 0)
          (if h : 8 ≤ q.val ∧ q.val - 8 < 8 then x4 (ix2 (0 : Fin 1) (⟨q.val - 8, h.2⟩ : Fin 8)) else 0) := by
  pointwise [val_main_v57, val_main_v54, val_main_v38, val_main_v37, val_main_v36, val_main_v35, val_main_v34,
    val_main_v33, val_main_v18, val_main_cst_4, val_main_cst_5, val_main_v49, val_main_v48, val_main_v47, val_main_v46,
    val_main_call0_cst, val_main_call0_v0, val_main_call0_v1, val_main_call0_v2, val_main_call0_v3, val_main_call0_v4,
    val_main_call0_v5, val_main_call0_v6, val_main_call0_v7, val_main_call0_v8, val_main_call0_v9, val_main_call0_v10,
    val_main_call0_v11, val_main_v45, val_main_v44, val_main_v43, val_main_v42, val_main_v41, val_main_v40,
    val_main_v39, val_main_v19, val_main_v53, val_main_v52, val_main_v51, val_main_cst_6]
  simp only [at_row_fold, ne_eq, not_true_eq_false, if_false, Ideal.absf_def, zero_sub]
  exact lanes (at_row x0 x1 x2 R) (fun k => x3 (ix2 (0 : Fin 1) k)) (fun k => x4 (ix2 (0 : Fin 1) k)) q

end Cert.InProj
-- ==== Proof.InProj.Value.lean ====
/- The two result arrays of the input projection after the run, at the ideal numbers: they are the reference's results
   of the five arguments. -/
module

public import proofs.«01_k».proof.Proof.InProj.Entry
public import proofs.«01_k».proof.Proof.InProj.Target

@[expose] public section

set_option maxRecDepth 16384

noncomputable section

namespace Cert.InProj

open Cert.KernelIdeal Cert.KernelIdeal.Gen
open Cert.ReferenceIdeal.Read
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- The five arguments. -/
abbrev arg0 (c : Dev nD) : FVec Ideal S8x2048x2048 .f32 := m ((c : Thread nD τ).loc main_arg0)
abbrev arg1 (c : Dev nD) : FVec Ideal S1x2048 .f32 := m ((c : Thread nD τ).loc main_arg1)
abbrev arg2 (c : Dev nD) : FVec Ideal S1x2048x12304 .f32 := m ((c : Thread nD τ).loc main_arg2)
abbrev arg3 (c : Dev nD) : FVec Ideal S1x8 .f32 := m ((c : Thread nD τ).loc main_arg3)
abbrev arg4 (c : Dev nD) : FVec Ideal S1x8 .f32 := m ((c : Thread nD τ).loc main_arg4)

theorem idx : ∀ t : Fin cfg0.N,
    win0_0.index t = ![t.val / 12, 0] ∧ win0_1.index t = ![0, 0]
      ∧ win0_2.index t = ![1024 * (t.val % 12) + (if t.val % 12 < 4 then 0 else 16), 0]
      ∧ win0_3.index t = ![0, 0] ∧ win0_4.index t = ![0, 0] ∧ win0_5.index t = ![0, 0]
      ∧ win0_6.index t = ![t.val / 12, t.val % 12] ∧ win0_7.index t = ![t.val / 12, 0]
      ∧ (grid0.coords t 1).val = t.val % 12 :=
  (by decide +kernel : ∀ t : Fin grid0.N, _)

theorem rowStart_val (t : Fin cfg0.N) : (rowStart t.val).val = 12 * (t.val / 12) := by
  have ht : t.val < 192 := Nat.lt_of_lt_of_eq t.isLt N_0
  show 12 * (t.val / 12) % 192 = _
  omega

/-- Row `p` of the row block of point `t`, in the array. -/
def rowAt (t : Fin cfg0.N) (p : Fin 1024) : Fin 16384 :=
  ⟨1024 * (t.val / 12) + p.val, by have ht : t.val < 192 := Nat.lt_of_lt_of_eq t.isLt N_0; omega⟩

/-- Column `q` of the column block of point `t`, in the array. -/
def colAt (t : Fin cfg0.N) (q : Fin 1024) : Fin 12288 := ⟨1024 * (t.val % 12) + q.val, by omega⟩

theorem block_x (c : Dev nD) (t : Fin cfg0.N) (p : Fin 1024) (k : Fin 2048) :
    (iblk m c 0 (rowStart t.val) : FVec Ideal S1024x2048 .f32) (ix2 p k)
      = arg0 m c (ix3 (⟨(rowAt t p).val / 2048, by omega⟩ : Fin 8) (⟨(rowAt t p).val % 2048, by omega⟩ : Fin 2048) k) := by
  refine Eq.trans ?_ (entry_x m c (rowAt t p) k)
  have e := rowStart_val t
  blk_ext [iblk, idx (rowStart t.val), rowAt]

theorem block_norm (c : Dev nD) (t : Fin cfg0.N) (k : Fin 2048) :
    (iblk m c 1 t : FVec Ideal S1x2048 .f32) (ix2 (0 : Fin 1) k) = arg1 m c (ix2 (0 : Fin 1) k) := by
  refine Eq.trans ?_ (entry_norm m c k)
  blk_ext [iblk, idx t]

theorem block_w (c : Dev nD) (t : Fin cfg0.N) (q : Fin 1024) (k : Fin 2048) :
    (iblk m c 2 t : FVec Ideal S1024x2048 .f32) (ix2 q k) = arg2 m c (ix3 (0 : Fin 1) k (column (colAt t q))) := by
  refine Eq.trans ?_ (entry_w m c (column (colAt t q)) k)
  have e : (column (colAt t q)).val = 1024 * (t.val % 12) + (if t.val % 12 < 4 then 0 else 16) + q.val := by
    show 1024 * (t.val % 12) + q.val + (if 1024 * (t.val % 12) + q.val < 4096 then 0 else 16) = _
    split_ifs <;> omega
  blk_ext [iblk, idx t]
  · refine (win0_2.rect_emb_val_off t (ix2 q k) 0).trans ?_
    rw [(idx t).2.2.1, e]
    rfl
  · refine (win0_2.rect_emb_val_off t (ix2 q k) 1).trans ?_
    rw [(idx t).2.2.1]
    exact Nat.zero_add _

theorem block_gate_w (c : Dev nD) (t : Fin cfg0.N) (q : Fin 128) (k : Fin 2048) :
    (iblk m c 3 t : FVec Ideal S128x2048 .f32) (ix2 q k) = (V m c main_v7 : FVec Ideal S128x2048 .f32) (ix2 q k) := by
  blk_ext [iblk, idx t]

theorem block_rate (c : Dev nD) (t : Fin cfg0.N) (q : Fin 128) :
    (iblk m c 4 t : FVec Ideal S1x128 .f32) (ix2 (0 : Fin 1) q) = (V m c main_v10 : FVec Ideal S1x128 .f32) (ix2 (0 : Fin 1) q) := by
  blk_ext [iblk, idx t]

theorem block_bias (c : Dev nD) (t : Fin cfg0.N) (q : Fin 128) :
    (iblk m c 5 t : FVec Ideal S1x128 .f32) (ix2 (0 : Fin 1) q) = (V m c main_v12 : FVec Ideal S1x128 .f32) (ix2 (0 : Fin 1) q) := by
  blk_ext [iblk, idx t]

/-- The normalised rows that the scratch buffer holds at point `t`. -/
theorem rows_apply (c : Dev nD) (t : Fin cfg0.N) (p : Fin 1024) (k : Fin 2048) :
    rows m c t.val (ix2 p k) = val_main_v13 (F := Ideal) (arg0 m c) (arg1 m c)
      (ix3 (⟨(rowAt t p).val / 2048, by omega⟩ : Fin 8) (⟨(rowAt t p).val % 2048, by omega⟩ : Fin 2048) k) :=
  normed (iblk m c 0 (rowStart t.val)) (iblk m c 1 (rowStart t.val)) (arg0 m c) (arg1 m c) p _ _
    (fun k => block_x m c t p k) (fun k => block_norm m c (rowStart t.val) k) k

/-- A tile's element. -/
theorem point6 (c : Dev nD) (t : Fin cfg0.N) (p q : Fin 1024) :
    k0_pay2 (F := Ideal) (grid0.coords t) (rows m c t.val) (iblk m c 2 t) (ix2 p q)
      = val_main_v56 (F := Ideal) (arg0 m c) (arg1 m c) (arg2 m c) (ix2 (rowAt t p) (colAt t q)) := by
  rw [tile, projected, at_row, product, (idx t).2.2.2.2.2.2.2.2, show (colAt t q).val / 1024 = t.val % 12 by
    show (1024 * (t.val % 12) + q.val) / 1024 = _; omega]
  refine congrArg (· * _) (Finset.sum_congr rfl fun k _ => ?_)
  rw [rows_apply, block_w]

/-- A gate lane's element. -/
theorem point7 (c : Dev nD) (t : Fin cfg0.N) (p : Fin 1024) (q : Fin 128) :
    gateBlock m c t.val (ix2 p q) = val_main_v57 (F := Ideal) (arg0 m c) (arg1 m c) (arg2 m c) (arg3 m c) (arg4 m c)
      (ix2 (rowAt t p) q) := by
  rw [gateBlock, gate, gated, block_rate, block_bias, entry_rate, entry_bias]
  congr 1
  split_ifs with h
  · rw [at_row, product]
    refine Finset.sum_congr rfl fun k _ => ?_
    rw [rows_apply, block_gate_w, entry_gate_w, dif_pos h]
  · refine Finset.sum_eq_zero fun k _ => ?_
    rw [block_gate_w, entry_gate_w, dif_neg h, mul_zero]

/-- The projection's array after the run. -/
theorem final6 (c : Dev nD) : (dats m 0 c).arrAt 6 cfg0.N = val_main_v56 (F := Ideal) (arg0 m c) (arg1 m c) (arg2 m c) := by
  refine (dats m 0 c).arrAt_eq_of_covers 6 _ (by decide +kernel) fun t hf y => ?_
  blk_simp
  rw [left6]
  idx_vars y
  refine (point6 m c t _ _).trans (congrArg _ ?_)
  blk_ext [idx t, rowAt, colAt]

/-- The gate array after the run. -/
theorem final7 (c : Dev nD) : (dats m 0 c).arrAt 7 cfg0.N
    = val_main_v57 (F := Ideal) (arg0 m c) (arg1 m c) (arg2 m c) (arg3 m c) (arg4 m c) := by
  refine (dats m 0 c).arrAt_eq_of_covers 7 _ (by decide +kernel) fun t hf y => ?_
  blk_simp
  rw [left7]
  idx_vars y
  refine (point7 m c t _ _).trans (congrArg _ ?_)
  blk_ext [idx t, rowAt]

end Cert.InProj
-- ==== Proof.InProj.Claims.lean ====
/- The five claims about the input projection. -/
module

public import proofs.«01_k».proof.Defs
public import proofs.«01_k».proof.Proof.InProjP.Frame
public import proofs.«01_k».proof.Proof.Gen.ReferenceIdeal.Run
public import proofs.«01_k».proof.Proof.InProj.Value
public import Idealize.ShloMosaic.Lib.Quiescent

@[expose] public section

noncomputable section

namespace Cert.InProj

open Idealize.ShloMosaic Idealize.ShloMosaic.TcCoe Idealize.SL.Sem

theorem frame_kernel : Cert.quiescent_Kernel := fun m ρ _ => Cert.InProjP.quiescent m ρ

theorem frame_ideal : Cert.quiescent_KernelIdeal := fun m ρ _ => quiescent m ρ

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem preserves : Cert.preserves_Kernel_KernelIdeal :=
  IdealRules.named_const.statement Cert.KernelIdeal.κ "qscale" .f32 0x3E0293EE#32
    (((Real.log 2)⁻¹ * (Real.sqrt 128)⁻¹ : ℝ) : EReal) rfl

/-- The run of the launch with both result arrays named. -/
theorem results (m : (ℓ : Loc Cert.KernelIdeal.nD Cert.KernelIdeal.τ Cert.KernelIdeal.sig) → Buf (Elt Ideal) ℓ)
    (ρ : Dev Cert.KernelIdeal.nD → PrngReg) :
    θ_run Cert.KernelIdeal.defs (onTc (τ := Cert.KernelIdeal.τ) Cert.KernelIdeal.main) ⟨m, fun _ => 0, ρ⟩ (fun r => ∀ c : Dev Cert.KernelIdeal.nD,
      r.2.mem ((c : Thread Cert.KernelIdeal.nD Cert.KernelIdeal.τ).loc Cert.KernelIdeal.main_v13_0)
          = Cert.ReferenceIdeal.Read.val_main_v56 (F := Ideal) (arg0 m c) (arg1 m c) (arg2 m c)
      ∧ r.2.mem ((c : Thread Cert.KernelIdeal.nD Cert.KernelIdeal.τ).loc Cert.KernelIdeal.main_v13_1)
          = Cert.ReferenceIdeal.Read.val_main_v57 (F := Ideal) (arg0 m c) (arg1 m c) (arg2 m c) (arg3 m c) (arg4 m c)
      ∧ r.2.mem ((c : Thread Cert.KernelIdeal.nD Cert.KernelIdeal.τ).loc Cert.KernelIdeal.main_arg0) = m ((c : Thread Cert.KernelIdeal.nD Cert.KernelIdeal.τ).loc Cert.KernelIdeal.main_arg0)
      ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
      ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
      ∧ r.2.mem ((c : Thread Cert.KernelIdeal.nD Cert.KernelIdeal.τ).loc Cert.KernelIdeal.main_arg3) = m ((c : Thread Cert.KernelIdeal.nD Cert.KernelIdeal.τ).loc Cert.KernelIdeal.main_arg3)
      ∧ r.2.mem ((c : Thread Cert.KernelIdeal.nD Cert.KernelIdeal.τ).loc Cert.KernelIdeal.main_arg4) = m ((c : Thread Cert.KernelIdeal.nD Cert.KernelIdeal.τ).loc Cert.KernelIdeal.main_arg4)) :=
  (θ_run Cert.KernelIdeal.defs _ _).mono (fun r h c =>
      ⟨((h c).1 6).trans (final6 m c), ((h c).1 7).trans (final7 m c),
        ((h c).2 Cert.KernelIdeal.main_arg0 (Pipeline.mem_restRefs_of Cert.KernelIdeal.main_arg0 (by decide) (by decide))).trans (Cert.KernelIdeal.Gen.V_main_arg0 m c),
        ((h c).2 Cert.KernelIdeal.main_arg1 (Pipeline.mem_restRefs_of Cert.KernelIdeal.main_arg1 (by decide) (by decide))).trans (Cert.KernelIdeal.Gen.V_main_arg1 m c),
        ((h c).2 Cert.KernelIdeal.main_arg2 (Pipeline.mem_restRefs_of Cert.KernelIdeal.main_arg2 (by decide) (by decide))).trans (Cert.KernelIdeal.Gen.V_main_arg2 m c),
        ((h c).2 Cert.KernelIdeal.main_arg3 (Pipeline.mem_restRefs_of Cert.KernelIdeal.main_arg3 (by decide) (by decide))).trans (Cert.KernelIdeal.Gen.V_main_arg3 m c),
        ((h c).2 Cert.KernelIdeal.main_arg4 (Pipeline.mem_restRefs_of Cert.KernelIdeal.main_arg4 (by decide) (by decide))).trans (Cert.KernelIdeal.Gen.V_main_arg4 m c)⟩)
    (arrays m ρ)

theorem algebraic : Cert.algebraic_KernelIdeal_ReferenceIdeal := by
  intro m ρ m' ρ' _ hagree
  refine ⟨_, _, results m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v56_eq, (hagree c).1, (hagree c).2.1, (hagree c).2.2.1]
  · rw [Cert.ReferenceIdeal.Read.val_main_v57_eq, (hagree c).1, (hagree c).2.1, (hagree c).2.2.1, (hagree c).2.2.2.1,
      (hagree c).2.2.2.2]

end Cert.InProj
-- ==== Proof.OutProj.Points.lean ====
/- The arithmetic of one quarter of a grid point of the output projection, read at one element: the gated merge, the
   product with the output weights and the normalised sum with the layer's input. -/
module

public import proofs.«01_k».proof.Proof.Gen.Kernel2Ideal.Frame
public import proofs.«01_k».proof.Proof.InProj.Scalars
public import proofs.«01_k».proof.Proof.Gen.Reference2Ideal.Read
public import Idealize.ShloMosaic.Lib.Pipeline.ValueKit

@[expose] public section

set_option maxRecDepth 16384

noncomputable section

namespace Cert.OutProj

open Cert.Kernel2Ideal Cert.Kernel2Ideal.Gen
open Cert.Reference2Ideal.Read
open Idealize.ShloMosaic Idealize.ShloMosaic.TcCoe Idealize.ShloMosaic.Tactic Idealize.SL.Sem

variable (A B : FVec Ideal S128x1024 .bf16) (GA GB : FVec Ideal S128x2048 .bf16) (X : FVec Ideal S128x2048 .f32)
  (WA WB : FVec Ideal S1024x2048 .bf16) (WO : FVec Ideal S2048x2048 .bf16) (PW : FVec Ideal S1x2048 .f32)

/-- The merged rows of a quarter. -/
def merge : FVec Ideal S128x2048 .bf16 :=
  k0_pay11 (F := Ideal) (k0_pay3 (F := Ideal) A WA) (k0_pay7 (F := Ideal) B WB) GA GB

/-- What a grid point stores to a quarter of its rows. -/
def quarter : FVec Ideal S128x2048 .f32 :=
  k0_pay22 (F := Ideal) (k0_pay16 (F := Ideal) (merge A B GA GB WA WB) WO) (k0_pay20 (F := Ideal) (merge A B GA GB WA WB) WO)
    (k0_pay21 (F := Ideal) X) PW

theorem second : k0_pay23 (F := Ideal) (k0_pay17 (F := Ideal) (k0_pay13 (F := Ideal) (k0_pay8 (F := Ideal) B WB)
    (k0_pay12 (F := Ideal) (k0_pay4 (F := Ideal) A WA) GA) GB) WO) X PW = quarter A B GA GB X WA WB WO PW := rfl

theorem third : k0_pay1 (F := Ideal) (k0_pay24 (F := Ideal) X) (k0_pay25 (F := Ideal) (k0_pay18 (F := Ideal)
    (k0_pay14 (F := Ideal) (k0_pay5 (F := Ideal) A WA) (k0_pay9 (F := Ideal) B WB) GA GB) WO)) PW
      = quarter A B GA GB X WA WB WO PW := rfl

theorem fourth : k0_pay2 (F := Ideal) (k0_pay19 (F := Ideal) (k0_pay6 (F := Ideal) A WA) (k0_pay10 (F := Ideal) B WB)
    (k0_pay15 (F := Ideal) GA) GB WO) X PW = quarter A B GA GB X WA WB WO PW := rfl

variable (x0 x1 : FVec Ideal Cert.Reference2Ideal.S16384x1024 .bf16) (x2 : FVec Ideal Cert.Reference2Ideal.S16384x12288 .bf16)
  (x3 : FVec Ideal Cert.Reference2Ideal.S8x2048x2048 .f32) (x4 x5 : FVec Ideal Cert.Reference2Ideal.S1x1024x2048 .f32)
  (x6 : FVec Ideal Cert.Reference2Ideal.S1x2048x2048 .f32) (x7 : FVec Ideal Cert.Reference2Ideal.S1x2048 .f32)
  (p : Fin 128) (r : Fin 16384)

/-- A product of a quarter's rows with a branch's weights. -/
theorem branch_a (hA : ∀ k : Fin 1024, A (ix2 p k) = x0 (ix2 r k))
    (hWA : ∀ (k : Fin 1024) (n : Fin 2048), WA (ix2 k n) = x4 (ix3 (0 : Fin 1) k n)) (n : Fin 2048) :
    k0_pay3 (F := Ideal) A WA (ix2 p n) = val_main_v6 (F := Ideal) x0 x4 (ix2 r n) := by
  pointwise [k0_pay3, val_main_v6, val_main_v5, val_main_v4]
  simp only [hA, hWA]

theorem branch_b (hB : ∀ k : Fin 1024, B (ix2 p k) = x1 (ix2 r k))
    (hWB : ∀ (k : Fin 1024) (n : Fin 2048), WB (ix2 k n) = x5 (ix3 (0 : Fin 1) k n)) (n : Fin 2048) :
    k0_pay7 (F := Ideal) B WB (ix2 p n) = val_main_v9 (F := Ideal) x1 x5 (ix2 r n) := by
  pointwise [k0_pay7, val_main_v9, val_main_v8, val_main_v7]
  simp only [hB, hWB]

/-- The merge of two products under the kernel's gates. -/
theorem gates (UA UB : FVec Ideal S128x2048 .f32) (n : Fin 2048) :
    k0_pay11 (F := Ideal) UA UB GA GB (ix2 p n)
      = Ideal.div 1 (1 + Ideal.exp (-(GA (ix2 p n)))) * UA (ix2 p n)
        + Ideal.div 1 (1 + Ideal.exp (-(GB (ix2 p n)))) * UB (ix2 p n) := by
  rw [← Cert.Scalars.gate_eq, ← Cert.Scalars.gate_eq]
  pointwise [k0_pay11]

theorem merged (hU : ∀ n : Fin 2048, k0_pay3 (F := Ideal) A WA (ix2 p n) = val_main_v6 (F := Ideal) x0 x4 (ix2 r n))
    (hV : ∀ n : Fin 2048, k0_pay7 (F := Ideal) B WB (ix2 p n) = val_main_v9 (F := Ideal) x1 x5 (ix2 r n))
    (hGA : ∀ n : Fin 2048, GA (ix2 p n) = x2 (ix2 r (⟨8192 + n.val, by omega⟩ : Fin 12288)))
    (hGB : ∀ n : Fin 2048, GB (ix2 p n) = x2 (ix2 r (⟨10240 + n.val, by omega⟩ : Fin 12288))) (n : Fin 2048) :
    merge A B GA GB WA WB (ix2 p n) = val_main_v24 (F := Ideal) x0 x1 x2 x4 x5 (ix2 r n) := by
  rw [merge, gates, hU, hV, hGA, hGB]
  pointwise [val_main_v24, val_main_v23, val_main_v22, val_main_v21, val_main_v20, val_main_v19, val_main_v18,
    val_main_v17, val_main_v16, val_main_v15, val_main_v14, val_main_v13, val_main_v12, val_main_v11, val_main_v10,
    val_main_v3, val_main_v2, val_main_v1, val_main_v0, val_main_cst, val_main_cst_0, val_main_cst_1, val_main_cst_2]

/-- A quarter's product with the output weights. -/
theorem joined (M : FVec Ideal S128x2048 .bf16)
    (hM : ∀ n : Fin 2048, M (ix2 p n) = val_main_v24 (F := Ideal) x0 x1 x2 x4 x5 (ix2 r n))
    (hWO : ∀ k n : Fin 2048, WO (ix2 k n) = x6 (ix3 (0 : Fin 1) k n)) (n : Fin 2048) :
    k0_pay16 (F := Ideal) M WO (ix2 p n) = val_main_v26 (F := Ideal) x0 x1 x2 x4 x5 x6 (ix2 r n) := by
  pointwise [k0_pay16, val_main_v26, val_main_v25]
  simp only [hM, hWO]

/-- The mean square that scales a row. -/
theorem scale (M : FVec Ideal S128x2048 .bf16)
    (hY : ∀ n : Fin 2048, k0_pay16 (F := Ideal) M WO (ix2 p n) = val_main_v26 (F := Ideal) x0 x1 x2 x4 x5 x6 (ix2 r n)) :
    k0_pay20 (F := Ideal) M WO (ix2 p (0 : Fin 1)) = val_main_v36 (F := Ideal) x0 x1 x2 x4 x5 x6 (ix2 r (0 : Fin 1)) := by
  have h : k0_pay20 (F := Ideal) M WO (ix2 p (0 : Fin 1))
      = Ideal.rsqrt (Ideal.div (∑ n : Fin 2048, k0_pay16 (F := Ideal) M WO (ix2 p n) * k0_pay16 (F := Ideal) M WO (ix2 p n))
          (Ideal.ofBits .f32 0x45000000#32) + Ideal.ofBits .f32 0x358637BD#32) := by
    pointwise [k0_pay20, k0_pay16]
  rw [h]
  simp only [hY]
  pointwise [val_main_v36, val_main_v35, val_main_v34, val_main_v33, val_main_v32, val_main_v31, val_main_v30,
    val_main_v29, val_main_cst_3, val_main_cst_4, val_main_cst_5]

/-- One element of what a quarter stores. -/
theorem finish (Y : FVec Ideal S128x2048 .f32) (S : FVec Ideal S128x1 .f32) (n : Fin 2048)
    (hY : Y (ix2 p n) = val_main_v26 (F := Ideal) x0 x1 x2 x4 x5 x6 (ix2 r n))
    (hS : S (ix2 p (0 : Fin 1)) = val_main_v36 (F := Ideal) x0 x1 x2 x4 x5 x6 (ix2 r (0 : Fin 1)))
    (hX : X (ix2 p n) = x3 (ix3 (⟨r.val / 2048, by omega⟩ : Fin 8) (⟨r.val % 2048, by omega⟩ : Fin 2048) n))
    (hPW : PW (ix2 (0 : Fin 1) n) = x7 (ix2 (0 : Fin 1) n)) :
    k0_pay22 (F := Ideal) Y S (k0_pay21 (F := Ideal) X) PW (ix2 p n)
      = val_main_v42 (F := Ideal) x0 x1 x2 x3 x4 x5 x6 x7 (ix2 r n) := by
  have h : k0_pay22 (F := Ideal) Y S (k0_pay21 (F := Ideal) X) PW (ix2 p n)
      = X (ix2 p n) + Y (ix2 p n) * S (ix2 p (0 : Fin 1)) * PW (ix2 (0 : Fin 1) n) := by
    pointwise [k0_pay22, k0_pay21]
  rw [h, hY, hS, hX, hPW]
  pointwise [val_main_v42, val_main_v41, val_main_v40, val_main_v39, val_main_v38, val_main_v37, val_main_v28,
    val_main_v27]

/-- A quarter holds the reference's rows. -/
theorem quarter_apply (hA : ∀ k : Fin 1024, A (ix2 p k) = x0 (ix2 r k)) (hB : ∀ k : Fin 1024, B (ix2 p k) = x1 (ix2 r k))
    (hGA : ∀ n : Fin 2048, GA (ix2 p n) = x2 (ix2 r (⟨8192 + n.val, by omega⟩ : Fin 12288)))
    (hGB : ∀ n : Fin 2048, GB (ix2 p n) = x2 (ix2 r (⟨10240 + n.val, by omega⟩ : Fin 12288)))
    (hX : ∀ n : Fin 2048, X (ix2 p n)
      = x3 (ix3 (⟨r.val / 2048, by omega⟩ : Fin 8) (⟨r.val % 2048, by omega⟩ : Fin 2048) n))
    (hWA : ∀ (k : Fin 1024) (n : Fin 2048), WA (ix2 k n) = x4 (ix3 (0 : Fin 1) k n))
    (hWB : ∀ (k : Fin 1024) (n : Fin 2048), WB (ix2 k n) = x5 (ix3 (0 : Fin 1) k n))
    (hWO : ∀ k n : Fin 2048, WO (ix2 k n) = x6 (ix3 (0 : Fin 1) k n))
    (hPW : ∀ n : Fin 2048, PW (ix2 (0 : Fin 1) n) = x7 (ix2 (0 : Fin 1) n)) (n : Fin 2048) :
    quarter A B GA GB X WA WB WO PW (ix2 p n) = val_main_v42 (F := Ideal) x0 x1 x2 x3 x4 x5 x6 x7 (ix2 r n) := by
  have hM := merged A B GA GB WA WB x0 x1 x2 x4 x5 p r (branch_a A WA x0 x4 p r hA hWA) (branch_b B WB x1 x5 p r hB hWB)
    hGA hGB
  have hY := joined WO x0 x1 x2 x4 x5 x6 p r _ hM hWO
  exact finish X PW x0 x1 x2 x3 x4 x5 x6 x7 p r _ _ n (hY n) (scale WO x0 x1 x2 x4 x5 x6 p r _ hY) (hX n) (hPW n)

end Cert.OutProj
-- ==== Proof.OutProj.Value.lean ====
/- The result array of the output projection after the run, at the ideal numbers: it is the reference's result of the
   eight arguments. -/
module

public import proofs.«01_k».proof.Proof.OutProj.Points
public import proofs.«01_k».proof.Proof.Gen.Kernel2Ideal.Value

@[expose] public section

set_option maxRecDepth 16384

noncomputable section

namespace Cert.OutProj

open Cert.Kernel2Ideal Cert.Kernel2Ideal.Gen
open Cert.Reference2Ideal.Read
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- The eight arguments. -/
abbrev arg0 (c : Dev nD) : FVec Ideal S16384x1024 .bf16 := m ((c : Thread nD τ).loc main_arg0)
abbrev arg1 (c : Dev nD) : FVec Ideal S16384x1024 .bf16 := m ((c : Thread nD τ).loc main_arg1)
abbrev arg2 (c : Dev nD) : FVec Ideal S16384x12288 .bf16 := m ((c : Thread nD τ).loc main_arg2)
abbrev arg3 (c : Dev nD) : FVec Ideal S8x2048x2048 .f32 := m ((c : Thread nD τ).loc main_arg3)
abbrev arg4 (c : Dev nD) : FVec Ideal S1x1024x2048 .f32 := m ((c : Thread nD τ).loc main_arg4)
abbrev arg5 (c : Dev nD) : FVec Ideal S1x1024x2048 .f32 := m ((c : Thread nD τ).loc main_arg5)
abbrev arg6 (c : Dev nD) : FVec Ideal S1x2048x2048 .f32 := m ((c : Thread nD τ).loc main_arg6)
abbrev arg7 (c : Dev nD) : FVec Ideal S1x2048 .f32 := m ((c : Thread nD τ).loc main_arg7)

theorem idx : ∀ t : Fin cfg0.N,
    win0_0.index t = ![t.val, 0] ∧ win0_1.index t = ![t.val, 0] ∧ win0_2.index t = ![t.val, 4]
      ∧ win0_3.index t = ![t.val, 5] ∧ win0_4.index t = ![t.val, 0] ∧ win0_5.index t = ![0, 0]
      ∧ win0_6.index t = ![0, 0] ∧ win0_7.index t = ![0, 0] ∧ win0_8.index t = ![0, 0] ∧ win0_9.index t = ![t.val, 0] :=
  (by decide +kernel : ∀ t : Fin grid0.N, _)

/-- Row `p` of the row block of point `t`, in the array. -/
def rowAt (t : Fin cfg0.N) (p : Fin 512) : Fin 16384 :=
  ⟨512 * t.val + p.val, by have ht : t.val < 32 := Nat.lt_of_lt_of_eq t.isLt N_0; omega⟩

theorem block_a (c : Dev nD) (t : Fin cfg0.N) (p : Fin 512) (k : Fin 1024) :
    (iblk m c 0 t : FVec Ideal S512x1024 .bf16) (ix2 p k) = arg0 m c (ix2 (rowAt t p) k) := by
  blk_ext [iblk, V, idx t, rowAt]

theorem block_b (c : Dev nD) (t : Fin cfg0.N) (p : Fin 512) (k : Fin 1024) :
    (iblk m c 1 t : FVec Ideal S512x1024 .bf16) (ix2 p k) = arg1 m c (ix2 (rowAt t p) k) := by
  blk_ext [iblk, V, idx t, rowAt]

theorem block_gate_a (c : Dev nD) (t : Fin cfg0.N) (p : Fin 512) (n : Fin 2048) :
    (iblk m c 2 t : FVec Ideal S512x2048 .bf16) (ix2 p n)
      = arg2 m c (ix2 (rowAt t p) (⟨8192 + n.val, by omega⟩ : Fin 12288)) := by
  blk_ext [iblk, V, idx t, rowAt]

theorem block_gate_b (c : Dev nD) (t : Fin cfg0.N) (p : Fin 512) (n : Fin 2048) :
    (iblk m c 3 t : FVec Ideal S512x2048 .bf16) (ix2 p n)
      = arg2 m c (ix2 (rowAt t p) (⟨10240 + n.val, by omega⟩ : Fin 12288)) := by
  blk_ext [iblk, V, idx t, rowAt]

theorem entry_x (c : Dev nD) (r : Fin 16384) (n : Fin 2048) :
    (V m c main_v4 : FVec Ideal S16384x2048 .f32) (ix2 r n)
      = arg3 m c (ix3 (⟨r.val / 2048, by omega⟩ : Fin 8) (⟨r.val % 2048, by omega⟩ : Fin 2048) n) := by
  entry_read
  pointwise

theorem entry_a (c : Dev nD) (k : Fin 1024) (n : Fin 2048) :
    (V m c main_v5 : FVec Ideal S1024x2048 .bf16) (ix2 k n) = arg4 m c (ix3 (0 : Fin 1) k n) := by
  entry_read
  pointwise

theorem entry_b (c : Dev nD) (k : Fin 1024) (n : Fin 2048) :
    (V m c main_v6 : FVec Ideal S1024x2048 .bf16) (ix2 k n) = arg5 m c (ix3 (0 : Fin 1) k n) := by
  entry_read
  pointwise

theorem entry_out (c : Dev nD) (k n : Fin 2048) :
    (V m c main_v7 : FVec Ideal S2048x2048 .bf16) (ix2 k n) = arg6 m c (ix3 (0 : Fin 1) k n) := by
  entry_read
  pointwise

theorem entry_norm (c : Dev nD) (n : Fin 2048) :
    (V m c main_v8 : FVec Ideal S1x2048 .f32) (ix2 (0 : Fin 1) n) = arg7 m c (ix2 (0 : Fin 1) n) := by
  entry_read
  pointwise

theorem block_x (c : Dev nD) (t : Fin cfg0.N) (p : Fin 512) (n : Fin 2048) :
    (iblk m c 4 t : FVec Ideal S512x2048 .f32) (ix2 p n)
      = arg3 m c (ix3 (⟨(rowAt t p).val / 2048, by omega⟩ : Fin 8) (⟨(rowAt t p).val % 2048, by omega⟩ : Fin 2048) n) := by
  refine Eq.trans ?_ (entry_x m c (rowAt t p) n)
  blk_ext [iblk, idx t, rowAt]

theorem block_wa (c : Dev nD) (t : Fin cfg0.N) (k : Fin 1024) (n : Fin 2048) :
    (iblk m c 5 t : FVec Ideal S1024x2048 .bf16) (ix2 k n) = arg4 m c (ix3 (0 : Fin 1) k n) := by
  refine Eq.trans ?_ (entry_a m c k n)
  blk_ext [iblk, idx t]

theorem block_wb (c : Dev nD) (t : Fin cfg0.N) (k : Fin 1024) (n : Fin 2048) :
    (iblk m c 6 t : FVec Ideal S1024x2048 .bf16) (ix2 k n) = arg5 m c (ix3 (0 : Fin 1) k n) := by
  refine Eq.trans ?_ (entry_b m c k n)
  blk_ext [iblk, idx t]

theorem block_wo (c : Dev nD) (t : Fin cfg0.N) (k n : Fin 2048) :
    (iblk m c 7 t : FVec Ideal S2048x2048 .bf16) (ix2 k n) = arg6 m c (ix3 (0 : Fin 1) k n) := by
  refine Eq.trans ?_ (entry_out m c k n)
  blk_ext [iblk, idx t]

theorem block_norm (c : Dev nD) (t : Fin cfg0.N) (n : Fin 2048) :
    (iblk m c 8 t : FVec Ideal S1x2048 .f32) (ix2 (0 : Fin 1) n) = arg7 m c (ix2 (0 : Fin 1) n) := by
  refine Eq.trans ?_ (entry_norm m c n)
  blk_ext [iblk, idx t]

/-- What the reference computes of the arguments. -/
abbrev target (c : Dev nD) : FVec Ideal S16384x2048 .f32 :=
  val_main_v42 (F := Ideal) (arg0 m c) (arg1 m c) (arg2 m c) (arg3 m c) (arg4 m c) (arg5 m c) (arg6 m c) (arg7 m c)

/-- The row of a point's block that row `p` of the quarter starting at row `o` is. -/
abbrev under (o : ℕ) (ho : o + 128 ≤ 512) (p : Fin 128) : Fin 512 := ⟨o + p.val, by omega⟩

/-- The quarter that starts at row `o` of a point's block holds the reference's rows. -/
theorem rows_of (c : Dev nD) (t : Fin cfg0.N) (o : ℕ) (ho : o + 128 ≤ 512)
    (i : ∀ a, (![o, 0] : Fin 2 → ℕ) a + S128x1024.size a ≤ S512x1024.size a)
    (j : ∀ a, (![o, 0] : Fin 2 → ℕ) a + S128x2048.size a ≤ S512x2048.size a) (p : Fin 128) (n : Fin 2048) :
    quarter (View.ld (iblk m c 0 t) (Rect.unit (s := S512x1024) ![o, 0] S128x1024.size i))
      (View.ld (iblk m c 1 t) (Rect.unit (s := S512x1024) ![o, 0] S128x1024.size i))
      (View.ld (iblk m c 2 t) (Rect.unit (s := S512x2048) ![o, 0] S128x2048.size j))
      (View.ld (iblk m c 3 t) (Rect.unit (s := S512x2048) ![o, 0] S128x2048.size j))
      (View.ld (iblk m c 4 t) (Rect.unit (s := S512x2048) ![o, 0] S128x2048.size j))
      (View.ld (iblk m c 5 t) r0_1) (View.ld (iblk m c 6 t) r0_1) (View.ld (iblk m c 7 t) r0_9)
      (View.ld (iblk m c 8 t) r0_10) (ix2 p n) = target m c (ix2 (rowAt t (under o ho p)) n) :=
  quarter_apply _ _ _ _ _ _ _ _ _ (arg0 m c) (arg1 m c) (arg2 m c) (arg3 m c) (arg4 m c) (arg5 m c) (arg6 m c)
    (arg7 m c) p (rowAt t (under o ho p))
    (fun k => (View.ld_unit_apply_of _ _ _ _ _ (ix2 (under o ho p) k) (Fin.forall_fin_two.mpr ⟨rfl, (Nat.zero_add _).symm⟩)).trans
      (block_a m c t _ k))
    (fun k => (View.ld_unit_apply_of _ _ _ _ _ (ix2 (under o ho p) k) (Fin.forall_fin_two.mpr ⟨rfl, (Nat.zero_add _).symm⟩)).trans
      (block_b m c t _ k))
    (fun k => (View.ld_unit_apply_of _ _ _ _ _ (ix2 (under o ho p) k) (Fin.forall_fin_two.mpr ⟨rfl, (Nat.zero_add _).symm⟩)).trans
      (block_gate_a m c t _ k))
    (fun k => (View.ld_unit_apply_of _ _ _ _ _ (ix2 (under o ho p) k) (Fin.forall_fin_two.mpr ⟨rfl, (Nat.zero_add _).symm⟩)).trans
      (block_gate_b m c t _ k))
    (fun k => (View.ld_unit_apply_of _ _ _ _ _ (ix2 (under o ho p) k) (Fin.forall_fin_two.mpr ⟨rfl, (Nat.zero_add _).symm⟩)).trans
      (block_x m c t _ k))
    (fun k n => (View.ld_unit_apply_of _ _ _ _ _ (ix2 k n) (Fin.forall_fin_two.mpr ⟨(Nat.zero_add _).symm, (Nat.zero_add _).symm⟩)).trans
      (block_wa m c t k n))
    (fun k n => (View.ld_unit_apply_of _ _ _ _ _ (ix2 k n) (Fin.forall_fin_two.mpr ⟨(Nat.zero_add _).symm, (Nat.zero_add _).symm⟩)).trans
      (block_wb m c t k n))
    (fun k n => (View.ld_unit_apply_of _ _ _ _ _ (ix2 k n) (Fin.forall_fin_two.mpr ⟨(Nat.zero_add _).symm, (Nat.zero_add _).symm⟩)).trans
      (block_wo m c t k n))
    (fun n => (View.ld_unit_apply_of _ _ _ _ _ (ix2 (0 : Fin 1) n) (Fin.forall_fin_two.mpr ⟨(Nat.zero_add _).symm, (Nat.zero_add _).symm⟩)).trans
      (block_norm m c t n)) n

/-- Row `y` of a point's block, written as a row of a quarter. -/
theorem place (t : Fin cfg0.N) (o : ℕ) (ho : o + 128 ≤ 512) (p : Fin 128) (n : Fin 2048) (y : S512x2048.Idx)
    (h0 : (y 0).val = o + p.val) (h1 : (y 1).val = n.val) :
    (ix2 (rowAt t (under o ho p)) n : S16384x2048.Idx) = ix2 (rowAt t (y 0)) (y 1) := by
  have e0 : under o ho p = y 0 := Fin.ext h0.symm
  have e1 : n = y 1 := Fin.ext h1.symm
  rw [e0, e1]
  rfl

/-- An element of a point's block. -/
theorem point9 (c : Dev nD) (t : Fin cfg0.N) (y : S512x2048.Idx) :
    out0_9 (iblk m c 0 t) (iblk m c 1 t) (iblk m c 2 t) (iblk m c 3 t) (iblk m c 4 t) (iblk m c 5 t) (iblk m c 6 t)
      (iblk m c 7 t) (iblk m c 8 t) y = target m c (ix2 (rowAt t (y 0)) (y 1)) := by
  unfold_out out0_9
  canon_tiles x h
  case piece0 =>
    idx_vars x
    rw [fourth]
    exact (rows_of m c t 384 (by decide) _ _ x0 x1).trans (congrArg (target m c) (place t 384 (by decide) x0 x1 y h0 h1))
  case piece1 =>
    idx_vars x
    rw [third]
    exact (rows_of m c t 256 (by decide) _ _ x0 x1).trans (congrArg (target m c) (place t 256 (by decide) x0 x1 y h0 h1))
  case piece2 =>
    idx_vars x
    rw [second]
    exact (rows_of m c t 128 (by decide) _ _ x0 x1).trans (congrArg (target m c) (place t 128 (by decide) x0 x1 y h0 h1))
  case piece3 =>
    idx_vars x
    exact (rows_of m c t 0 (by decide) _ _ x0 x1).trans
      (congrArg (target m c) (place t 0 (by decide) x0 x1 y (h0.trans (Nat.zero_add _).symm) h1))

/-- The result array after the run. -/
theorem final9 (c : Dev nD) : (dats m 0 c).arrAt 9 cfg0.N = target m c := by
  refine (dats m 0 c).arrAt_eq_of_covers 9 _ (by decide +kernel) fun t hf y => ?_
  blk_simp
  rw [after0_9]
  refine (point9 m c t y).trans (congrArg _ ?_)
  idx_vars y
  blk_ext [idx t, rowAt]

end Cert.OutProj
-- ==== Proof.OutProj.Claims.lean ====
/- The five claims about the output projection. -/
module

public import proofs.«01_k».proof.Defs
public import proofs.«01_k».proof.Proof.Gen.Kernel2.Frame
public import proofs.«01_k».proof.Proof.Gen.Reference2Ideal.Run
public import proofs.«01_k».proof.Proof.OutProj.Value
public import Idealize.ShloMosaic.Lib.Quiescent

@[expose] public section

noncomputable section

namespace Cert.OutProj

open Idealize.ShloMosaic Idealize.ShloMosaic.TcCoe Idealize.SL.Sem

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves : Cert.preserves_Kernel2_Kernel2Ideal := trivial

theorem algebraic : Cert.algebraic_Kernel2Ideal_Reference2Ideal := by
  intro m ρ m' ρ' _ hagree
  refine ⟨_, (θ_run Cert.Kernel2Ideal.defs _ _).mono (fun _ h c => ⟨(h c).1.trans (final9 m c), (h c).2⟩)
    (Cert.Kernel2Ideal.Value.run_blocks m ρ), ?_⟩
  refine (θ_run Cert.Reference2Ideal.defs _ _).mono (fun _ h c => ⟨(h c).1.trans ?_, (h c).2⟩)
    (Cert.Reference2Ideal.Value.run (F := Ideal) m' ρ')
  rw [Cert.Reference2Ideal.Read.val_main_v42_eq, (hagree c).1, (hagree c).2.1, (hagree c).2.2.1, (hagree c).2.2.2.1,
    (hagree c).2.2.2.2.1, (hagree c).2.2.2.2.2.1, (hagree c).2.2.2.2.2.2.1, (hagree c).2.2.2.2.2.2.2]

end Cert.OutProj
-- ==== Proof.Mixers.Blocks.lean ====
/- What the attention stores of one block of 256 queries, over the vectors it loads: the products of the queries with the
   keys of every block up to their own, the blocks before their own masked unless they are of the three whose mean keys
   match best, the softmax over all of them and the gate. One text for the eight query blocks. -/
module

public import proofs.«01_k».proof.Proof.Gen.Kernel3Ideal.Frame
public import proofs.«01_k».proof.Proof.Gen.Kernel3Ideal.Skeleton
public import Idealize.ShloMosaic.Lib.Pipeline.ValueKit

@[expose] public section

set_option maxRecDepth 16384

noncomputable section

namespace Cert.Mixers

open Cert.Kernel3Ideal Cert.Kernel3Ideal.Gen
open Idealize.ShloMosaic Idealize.ShloMosaic.TcCoe Idealize.ShloMosaic.Tactic

variable {F : FTy → Type} [FloatOps F] [Named F]

/-- Row `b` of the sixteen rows of a block of gates, by any number. -/
theorem slices16 (b : ℕ) : S16x256.Slices ![b % 16, 0] S1x256 :=
  ⟨rfl, by
    intro a; fin_cases a
    · show b % 16 + 1 ≤ 16; omega
    · show 0 + 256 ≤ 256; omega⟩

/-- Whether a key's position belongs to a block of keys, as weights of its mean. -/
def weights : FVec F S128x2048 .bf16 :=
  let pos : IVec S128x2048 32 := iota .tc S128x2048 32 [1] (by decide)
  let zero : IVec S128x2048 32 := broadcast S128x2048 0#32
  let one : IVec S128x2048 32 := broadcast S128x2048 1#32
  let blk : IVec S128x2048 32 := broadcast S128x2048 256#32
  let quot : IVec S128x2048 32 := divsi pos blk
  let floor : IVec S128x2048 32 :=
    select (andi (cmpi .ne (subi (extui 32 (cmpi .sgt pos zero) natLt_1_32) (extui 32 (cmpi .slt pos zero) natLt_1_32)) one)
      (cmpi .ne (remsi pos blk) zero)) (subi quot one) quot
  truncf .bf16 (select (cmpi .eq (iota .tc S128x2048 32 [0] (by decide)) floor)
    (broadcast S128x2048 (FloatOps.ofBits .f32 998244352#32)) (broadcast S128x2048 (FloatOps.ofBits .f32 0#32) : FVec F S128x2048 .f32))
    bitsLt_bf16_f32

/-- The mean keys of the blocks. -/
def means (K : FVec F S2048x128 .bf16) : FVec F S128x128 .f32 :=
  matmul dot_S128x2048_S2048x128_S128x128_1_0_0_1_n_n none weights K (constant S128x128 .f32 0#32)

/-- The gates of a block of queries: the products with the mean keys. -/
def gates (K : FVec F S2048x128 .bf16) (q : FVec F S256x128 .bf16) : FVec F S16x256 .f32 :=
  let hi : FVec F S128x128 .bf16 := truncf .bf16 (means K) bitsLt_bf16_f32
  let lo : FVec F S128x128 .bf16 := truncf .bf16 (subf (means K) (extf .f32 hi bitsLt_bf16_f32)) bitsLt_bf16_f32
  addf (matmul dot_S16x128_S256x128_S16x256_1_1_0_0_n_n none (extractStridedSlice S16x128 ![0, 0] hi slices_S128x128_o0_0_S16x128) q (constant S16x256 .f32 0#32))
    (matmul dot_S16x128_S256x128_S16x256_1_1_0_0_n_n none (extractStridedSlice S16x128 ![0, 0] lo slices_S128x128_o0_0_S16x128) q (constant S16x256 .f32 0#32))

/-- The gate of block `n`, beside every gate. -/
def gateRow (g : FVec F S16x256 .f32) (n : ℕ) : FVec F S16x256 .f32 :=
  broadcastTo S16x256 (shapeCast S1x256 (extractStridedSlice S1x256 ![n % 16, 0] g (slices16 n)) shapeCasts_S1x256_S1x256) broadcasts_S1x256_S16x256

def rowNo : IVec S16x256 32 := iota .tc S16x256 32 [0] (by decide)

/-- Whether block `n` comes before a row's block. -/
def ahead (g : FVec F S16x256 .f32) (n : ℕ) : IVec S16x256 1 :=
  ori (cmpf .ogt (gateRow g n) g) (andi (cmpf .oeq (gateRow g n) g) (cmpi .sgt rowNo (broadcast S16x256 (BitVec.ofNat 32 n))))

/-- How many of the first `n` blocks come before a row's block. -/
def rank (g : FVec F S16x256 .f32) : ℕ → IVec S16x256 32
  | 0 => broadcast S16x256 0#32
  | n + 1 => addi (rank g n) (extui 32 (ahead g n) natLt_1_32)

/-- What masks the blocks that are not of the three best. -/
def bias (g : FVec F S16x256 .f32) (i : ℕ) : FVec F S16x256 .f32 :=
  select (cmpi .sge (rank g i) (broadcast S16x256 3#32)) (broadcast S16x256 (Named.named κ "mask" 0xF149F2CA#32))
    (broadcast S16x256 (FloatOps.ofBits .f32 0#32))

/-- The products of the queries with the keys of one block. -/
def product (q k : FVec F S256x128 .bf16) : FVec F S256x256 .f32 :=
  matmul dot_S256x128_S256x128_S256x256_1_1_0_0_n_n none k q (constant S256x256 .f32 0#32)

/-- The masked products of query block `i` with key block `j`. -/
def scores (K : FVec F S2048x128 .bf16) (q : FVec F S256x128 .bf16) (ks : ℕ → FVec F S256x128 .bf16) (i j : ℕ) : FVec F S256x256 .f32 :=
  bif Nat.blt j i then
    bif Nat.blt 3 i then
      addf (product q (ks j)) (broadcastTo S256x256 (extractStridedSlice S1x256 ![j % 16, 0] (bias (gates K q) i) (slices16 j)) broadcasts_S1x256_S256x256)
    else product q (ks j)
  else select (cmpi .sle (iota .tc S256x256 32 [0] (by decide)) (iota .tc S256x256 32 [1] (by decide))) (product q (ks j))
    (broadcast S256x256 (Named.named κ "mask" 0xF149F2CA#32))

/-- The greatest of the first `n + 1` blocks' scores, position by position. -/
def greatest (p : ℕ → FVec F S256x256 .f32) : ℕ → FVec F S256x256 .f32
  | 0 => p 0
  | n + 1 => maximumf (greatest p n) (p (n + 1))

/-- The greatest score of each query. -/
def peak (p : ℕ → FVec F S256x256 .f32) (i : ℕ) : FVec F S1x256 .f32 :=
  shapeCast S1x256 (multiReduction .maximumf [0] S256 (greatest p i) 0xFF800000#32 reduces_S256x256_S256 (.inl rfl) rfl) shapeCasts_S256_S1x256

/-- A block's scores' weights before they are normalised. -/
def expo (p : ℕ → FVec F S256x256 .f32) (i j : ℕ) : FVec F S256x256 .f32 :=
  exp2 (subf (p j) (broadcastTo S256x256 (peak p i) broadcasts_S1x256_S256x256))

/-- The sum of the first `n + 1` blocks' weights, position by position. -/
def mass (p : ℕ → FVec F S256x256 .f32) (i : ℕ) : ℕ → FVec F S256x256 .f32
  | 0 => expo p i 0
  | n + 1 => addf (mass p i n) (expo p i (n + 1))

/-- The values of one block, transposed. -/
def turned (v : FVec F S256x128 .bf16) : FVec F S128x256 .bf16 :=
  truncf .bf16 (transpose S128x256 [1, 0] (extf .f32 v bitsLt_bf16_f32) transposes_S256x128_p1_0_S128x256) bitsLt_bf16_f32

/-- The sum of the first `n` blocks' weighted values. -/
def blend (p : ℕ → FVec F S256x256 .f32) (vs : ℕ → FVec F S256x128 .bf16) (i : ℕ) : ℕ → FVec F S128x256 .f32
  | 0 => broadcast S128x256 (FloatOps.ofBits .f32 0#32)
  | n + 1 => addf (blend p vs i n) (matmul dot_S128x256_S256x256_S128x256_1_0_0_1_n_n none (turned (vs n))
      (truncf .bf16 (expo p i n) bitsLt_bf16_f32) (constant S128x256 .f32 0#32))

/-- The gate of a block of rows. -/
def gated (z : FVec F S256x128 .bf16) : FVec F S256x128 .f32 :=
  let h : FVec F S256x128 .f32 := mulf (broadcast S256x128 (FloatOps.ofBits .f32 1056964608#32)) (extf .f32 z bitsLt_bf16_f32)
  mulf h (addf (broadcast S256x128 (FloatOps.ofBits .f32 1065353216#32)) (tanh h))

/-- What query block `i` stores. -/
def stored (K : FVec F S2048x128 .bf16) (q : FVec F S256x128 .bf16) (ks vs : ℕ → FVec F S256x128 .bf16) (z : FVec F S256x128 .bf16)
    (i : ℕ) : FVec F S256x128 .bf16 :=
  truncf .bf16 (mulf (transpose S256x128 [1, 0]
      (divf (blend (scores K q ks i) vs i (i + 1))
        (broadcastTo S128x256 (shapeCast S1x256 (multiReduction .add [0] S256 (mass (scores K q ks i) i i) 0x00000000#32 reduces_S256x256_S256 (.inl rfl) rfl)
          shapeCasts_S256_S1x256) broadcasts_S1x256_S128x256)) transposes_S128x256_p1_0_S256x128) (gated z)) bitsLt_bf16_f32

/-- The rows of block `n` of a head's 2048. -/
def rowsOf (x : FVec F S2048x128 .bf16) (n : ℕ) : FVec F S256x128 .bf16 := fun j =>
  x (ix2 ⟨256 * (n % 8) + (j 0).val, by have h : (j 0).val < 256 := (j 0).isLt; omega⟩ (j 1))

/-- What a grid point leaves in its block of the attention's result. -/
def attention (q k v z : FVec F S2048x128 .bf16) : FVec F S2048x128 .bf16 := fun y =>
  stored k (rowsOf q ((y 0).val / 256)) (rowsOf k) (rowsOf v) (rowsOf z ((y 0).val / 256)) ((y 0).val / 256)
    (ix2 ⟨(y 0).val % 256, by omega⟩ (y 1))

theorem inb (n : ℕ) : ∀ a, (![256 * (n % 8), 0] : Fin 2 → Nat) a + S256x128.size a ≤ S2048x128.size a := by
  intro a; fin_cases a
  · show 256 * (n % 8) + 256 ≤ 2048; omega
  · show 0 + 128 ≤ 128; omega

theorem inb₀ : ∀ a, (![0, 0] : Fin 2 → Nat) a + S2048x128.size a ≤ S2048x128.size a := by
  intro a; fin_cases a
  · show 0 + 2048 ≤ 2048; omega
  · show 0 + 128 ≤ 128; omega

/-- The load of block `n` of a staged block's rows. -/
def load (arg : Memref sig .tc .vmem S2048x128 .bf16) (f : arg.view.ty.Contents (Elt F)) (n : ℕ) : FVec F S256x128 .bf16 :=
  View.readAt (Elt F) arg.view (Rect.unit (s := S2048x128) ![256 * (n % 8), 0] S256x128.size (inb n)).toLoadRect f

/-- The load of a whole staged block. -/
def loadAll (arg : Memref sig .tc .vmem S2048x128 .bf16) (f : arg.view.ty.Contents (Elt F)) : FVec F S2048x128 .bf16 :=
  View.readAt (Elt F) arg.view (Rect.unit (s := S2048x128) ![0, 0] S2048x128.size inb₀).toLoadRect f

theorem load_eq (arg : Memref sig .tc .vmem S2048x128 .bf16) (h : arg.IsWhole) (x : Vec F S2048x128 .bf16) :
    load arg (h.unread x) = rowsOf x := by
  funext n j
  unfold load rowsOf
  rw [View.readAt_eq_ld, h.read_unread]
  refine View.ld_unit_apply_of _ _ _ _ _ _ fun a => ?_
  fin_cases a
  · rfl
  · exact (Nat.zero_add _).symm

theorem loadAll_eq (arg : Memref sig .tc .vmem S2048x128 .bf16) (h : arg.IsWhole) (x : Vec F S2048x128 .bf16) :
    loadAll arg (h.unread x) = x := by
  funext j
  unfold loadAll
  rw [View.readAt_eq_ld, h.read_unread]
  refine View.ld_unit_apply_of _ _ _ _ _ _ fun a => ?_
  fin_cases a
  · exact (Nat.zero_add _).symm
  · exact (Nat.zero_add _).symm

/-- Row `x` of block `b`. -/
theorem attention_at (q k v z : FVec F S2048x128 .bf16) (b : ℕ) (y : S2048x128.Idx) (x0 : Fin 256) (x1 : Fin 128)
    (h0 : (y 0).val = 256 * b + x0.val) (h1 : (y 1).val = x1.val) :
    stored k (rowsOf q b) (rowsOf k) (rowsOf v) (rowsOf z b) b (ix2 x0 x1) = attention q k v z y := by
  have hb : (y 0).val / 256 = b := by omega
  unfold attention
  rw [hb]
  congr 1
  funext a
  fin_cases a
  · exact Fin.ext (show x0.val = (y 0).val % 256 by omega)
  · exact Fin.ext h1.symm

/-- The eight stores together. -/
theorem stores {q k v z K : FVec F S2048x128 .bf16} {q' k' v' z' : ℕ → FVec F S256x128 .bf16} (hK : K = k) (hq : q' = rowsOf q)
    (hk : k' = rowsOf k) (hv : v' = rowsOf v) (hz : z' = rowsOf z) :
    View.canon (Val := Elt F) (s := S2048x128) (e := .bf16)
      [⟨Rect.unit (s := S2048x128) ![768, 0] S256x128.size (inb 3), stored K (q' 3) k' v' (z' 3) 3⟩,
       ⟨Rect.unit (s := S2048x128) ![1024, 0] S256x128.size (inb 4), stored K (q' 4) k' v' (z' 4) 4⟩,
       ⟨Rect.unit (s := S2048x128) ![1280, 0] S256x128.size (inb 5), stored K (q' 5) k' v' (z' 5) 5⟩,
       ⟨Rect.unit (s := S2048x128) ![512, 0] S256x128.size (inb 2), stored K (q' 2) k' v' (z' 2) 2⟩,
       ⟨Rect.unit (s := S2048x128) ![1536, 0] S256x128.size (inb 6), stored K (q' 6) k' v' (z' 6) 6⟩,
       ⟨Rect.unit (s := S2048x128) ![256, 0] S256x128.size (inb 1), stored K (q' 1) k' v' (z' 1) 1⟩,
       ⟨Rect.unit (s := S2048x128) ![1792, 0] S256x128.size (inb 7), stored K (q' 7) k' v' (z' 7) 7⟩,
       ⟨Rect.unit (s := S2048x128) ![0, 0] S256x128.size (inb 0), stored K (q' 0) k' v' (z' 0) 0⟩] = attention q k v z := by
  subst hK hq hk hv hz
  funext y
  canon_tiles x h
  all_goals idx_vars x
  · exact attention_at _ _ _ _ 3 _ _ _ h0 h1
  · exact attention_at _ _ _ _ 4 _ _ _ h0 h1
  · exact attention_at _ _ _ _ 5 _ _ _ h0 h1
  · exact attention_at _ _ _ _ 2 _ _ _ h0 h1
  · exact attention_at _ _ _ _ 6 _ _ _ h0 h1
  · exact attention_at _ _ _ _ 1 _ _ _ h0 h1
  · exact attention_at _ _ _ _ 7 _ _ _ h0 h1
  · exact attention_at _ _ _ _ 0 _ _ _ (h0.trans (Nat.zero_add _).symm) h1

/-- What is read after the eight stores, whatever was there before. -/
theorem left (arg : Memref sig .tc .vmem S2048x128 .bf16) (f : arg.view.ty.Contents (Elt F)) {q k v z K : FVec F S2048x128 .bf16}
    {q' k' v' z' : ℕ → FVec F S256x128 .bf16} (hK : K = k) (hq : q' = rowsOf q) (hk : k' = rowsOf k) (hv : v' = rowsOf v) (hz : z' = rowsOf z) :
    arg.view.read (Elt F) (arg.view.writes (Elt F) f
      [⟨Rect.unit (s := S2048x128) ![768, 0] S256x128.size (inb 3), stored K (q' 3) k' v' (z' 3) 3⟩,
       ⟨Rect.unit (s := S2048x128) ![1024, 0] S256x128.size (inb 4), stored K (q' 4) k' v' (z' 4) 4⟩,
       ⟨Rect.unit (s := S2048x128) ![1280, 0] S256x128.size (inb 5), stored K (q' 5) k' v' (z' 5) 5⟩,
       ⟨Rect.unit (s := S2048x128) ![512, 0] S256x128.size (inb 2), stored K (q' 2) k' v' (z' 2) 2⟩,
       ⟨Rect.unit (s := S2048x128) ![1536, 0] S256x128.size (inb 6), stored K (q' 6) k' v' (z' 6) 6⟩,
       ⟨Rect.unit (s := S2048x128) ![256, 0] S256x128.size (inb 1), stored K (q' 1) k' v' (z' 1) 1⟩,
       ⟨Rect.unit (s := S2048x128) ![1792, 0] S256x128.size (inb 7), stored K (q' 7) k' v' (z' 7) 7⟩,
       ⟨Rect.unit (s := S2048x128) ![0, 0] S256x128.size (inb 0), stored K (q' 0) k' v' (z' 0) 0⟩]) = attention q k v z :=
  (View.read_writes_eq_canon _ _ _ (View.cover_of_tiled_head _ _ _ (by rfl))).trans (stores hK hq hk hv hz)

end Cert.Mixers

end
-- ==== Proof.Mixers.Run.lean ====
/- One grid point of the mixers' call over the idealized kernel, at the first point: the inputs come back as they were and
   the block of the attention's result holds `attention` of the four blocks it reads. -/
module

public import proofs.«01_k».proof.Proof.Mixers.Blocks

@[expose] public section

set_option maxRecDepth 16384

noncomputable section

namespace Cert.Mixers

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 0 in
/-- The first point. -/
theorem run (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S4x128 .f32) (harg4 : arg4.IsWhole) (arg5 : Memref sig .tc .vmem S4x128 .f32) (harg5 : arg5.IsWhole) (arg6 : Memref sig .tc .vmem S4x128 .f32) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2056x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x128 .f32) (harg21 : arg21.IsWhole) (arg22 : Memref sig .tc .vmem S2x16x128x128 .bf16) (harg22 : arg22.IsWhole) (arg23 : Memref sig .tc .vmem S2x16x128x128 .f32) (harg23 : arg23.IsWhole) (arg24 : Memref sig .tc .vmem S2x16x128x128 .bf16) (harg24 : arg24.IsWhole) (arg25 : Memref sig .tc .vmem S2x16x128x128 .f32) (harg25 : arg25.IsWhole) (arg26 : Memref sig .tc .vmem S2x16x8x128 .f32) (harg26 : arg26.IsWhole)
    (x0 : Vec F S2048x128 .bf16) (x1 : Vec F S2048x128 .bf16) (x2 : Vec F S2048x128 .bf16) (x3 : Vec F S4x128 .f32) (x4 : Vec F S4x128 .f32) (x5 : Vec F S4x128 .f32) (x6 : Vec F S2048x128 .f32) (x7 : Vec F S2048x128 .bf16) (x8 : Vec F S1x128 .f32) (x9 : Vec F S2048x128 .bf16) (x10 : Vec F S2048x128 .bf16) (x11 : Vec F S2048x128 .bf16) (x12 : Vec F S2048x128 .bf16)
    (hc : Scalar.cmpi .ne (Scalar.extui (Scalar.cmpi .eq (BitVec.ofNat 32 (i 0).val) 0#32) : BitVec 32) 0#32 = 1#1) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ owns (c : Thread nD τ) arg15 fullShare (attention x9 x10 x11 x12) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
      ⊢ wp frame (wpE (defs₀ (F := F)) Variants.none c none) E (cc0_mixers i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
    simp only [cc0_mixers_eq_skeleton]; unfold cc0_mixers_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d14, %f14, -, G14⟩, ⟨%d15, %f15, -, G15⟩, ⟨%d16, %f16, -, G16⟩, ⟨%d17, %f17, -, G17⟩, ⟨%d18, %f18, -, G18⟩, ⟨%d19, %f19, -, G19⟩, ⟨%d20, %f20, -, G20⟩, ⟨%d21, %f21, -, G21⟩, ⟨%d22, %f22, -, G22⟩, ⟨%d23, %f23, -, G23⟩, ⟨%d24, %f24, -, G24⟩, ⟨%d25, %f25, -, G25⟩, ⟨%d26, %f26, -, G26⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec_parts (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [G14]
    · iexists _; iexists _; isplitr; swap; · iexact G14
      ipureintro; rfl
    isplitl [G15]
    · iexists _; isplitr; swap; · iexact G15
      ipureintro
      have h := left arg15 f15 (loadAll_eq arg11 harg11 x10) (load_eq arg10 harg10 x9) (load_eq arg11 harg11 x10) (load_eq arg12 harg12 x11)
        (load_eq arg13 harg13 x12)
      exact h
    isplitl [G16]
    · iexists _; iexists _; isplitr; swap; · iexact G16
      ipureintro; rfl
    isplitl [G17]
    · iexists _; iexists _; isplitr; swap; · iexact G17
      ipureintro; rfl
    isplitl [G18]
    · iexists _; iexists _; isplitr; swap; · iexact G18
      ipureintro; rfl
    isplitl [G19]
    · iexists _; iexists _; isplitr; swap; · iexact G19
      ipureintro; rfl
    isplitl [G20]
    · iexists _; iexists _; isplitr; swap; · iexact G20
      ipureintro; rfl
    isplitl [G21]
    · iexists _; iexists _; isplitr; swap; · iexact G21
      ipureintro; rfl
    isplitl [G22]
    · iexists _; iexists _; isplitr; swap; · iexact G22
      ipureintro; rfl
    isplitl [G23]
    · iexists _; iexists _; isplitr; swap; · iexact G23
      ipureintro; rfl
    isplitl [G24]
    · iexists _; iexists _; isplitr; swap; · iexact G24
      ipureintro; rfl
    isplitl [G25]
    · iexists _; iexists _; isplitr; swap; · iexact G25
      ipureintro; rfl
    iexists _; iexists _; isplitr; swap; · iexact G26
    ipureintro; rfl

end Cert.Mixers

end
-- ==== Proof.Mixers.Later.lean ====
/- One grid point of the mixers' call over the idealized kernel, at a later point: the inputs come back as they were and
   the block of the attention's result holds `attention` of the four blocks it reads. -/
module

public import proofs.«01_k».proof.Proof.Mixers.Blocks

@[expose] public section

set_option maxRecDepth 16384

noncomputable section

namespace Cert.Mixers

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 0 in
/-- A later point. -/
theorem later (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S4x128 .f32) (harg4 : arg4.IsWhole) (arg5 : Memref sig .tc .vmem S4x128 .f32) (harg5 : arg5.IsWhole) (arg6 : Memref sig .tc .vmem S4x128 .f32) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2056x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x128 .f32) (harg21 : arg21.IsWhole) (arg22 : Memref sig .tc .vmem S2x16x128x128 .bf16) (harg22 : arg22.IsWhole) (arg23 : Memref sig .tc .vmem S2x16x128x128 .f32) (harg23 : arg23.IsWhole) (arg24 : Memref sig .tc .vmem S2x16x128x128 .bf16) (harg24 : arg24.IsWhole) (arg25 : Memref sig .tc .vmem S2x16x128x128 .f32) (harg25 : arg25.IsWhole) (arg26 : Memref sig .tc .vmem S2x16x8x128 .f32) (harg26 : arg26.IsWhole)
    (x0 : Vec F S2048x128 .bf16) (x1 : Vec F S2048x128 .bf16) (x2 : Vec F S2048x128 .bf16) (x3 : Vec F S4x128 .f32) (x4 : Vec F S4x128 .f32) (x5 : Vec F S4x128 .f32) (x6 : Vec F S2048x128 .f32) (x7 : Vec F S2048x128 .bf16) (x8 : Vec F S1x128 .f32) (x9 : Vec F S2048x128 .bf16) (x10 : Vec F S2048x128 .bf16) (x11 : Vec F S2048x128 .bf16) (x12 : Vec F S2048x128 .bf16)
    (hc : Scalar.cmpi .ne (Scalar.extui (Scalar.cmpi .eq (BitVec.ofNat 32 (i 0).val) 0#32) : BitVec 32) 0#32 ≠ 1#1) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ owns (c : Thread nD τ) arg15 fullShare (attention x9 x10 x11 x12) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
      ⊢ wp frame (wpE (defs₀ (F := F)) Variants.none c none) E (cc0_mixers i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
    simp only [cc0_mixers_eq_skeleton]; unfold cc0_mixers_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d14, %f14, -, G14⟩, ⟨%d15, %f15, -, G15⟩, ⟨%d16, %f16, -, G16⟩, ⟨%d17, %f17, -, G17⟩, ⟨%d18, %f18, -, G18⟩, ⟨%d19, %f19, -, G19⟩, ⟨%d20, %f20, -, G20⟩, ⟨%d21, %f21, -, G21⟩, ⟨%d22, %f22, -, G22⟩, ⟨%d23, %f23, -, G23⟩, ⟨%d24, %f24, -, G24⟩, ⟨%d25, %f25, -, G25⟩, ⟨%d26, %f26, -, G26⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec_parts (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [G14]
    · iexists _; iexists _; isplitr; swap; · iexact G14
      ipureintro; rfl
    isplitl [G15]
    · iexists _; isplitr; swap; · iexact G15
      ipureintro
      have h := left arg15 f15 (loadAll_eq arg11 harg11 x10) (load_eq arg10 harg10 x9) (load_eq arg11 harg11 x10) (load_eq arg12 harg12 x11)
        (load_eq arg13 harg13 x12)
      exact h
    isplitl [G16]
    · iexists _; iexists _; isplitr; swap; · iexact G16
      ipureintro; rfl
    isplitl [G17]
    · iexists _; iexists _; isplitr; swap; · iexact G17
      ipureintro; rfl
    isplitl [G18]
    · iexists _; iexists _; isplitr; swap; · iexact G18
      ipureintro; rfl
    isplitl [G19]
    · iexists _; iexists _; isplitr; swap; · iexact G19
      ipureintro; rfl
    isplitl [G20]
    · iexists _; iexists _; isplitr; swap; · iexact G20
      ipureintro; rfl
    isplitl [G21]
    · iexists _; iexists _; isplitr; swap; · iexact G21
      ipureintro; rfl
    isplitl [G22]
    · iexists _; iexists _; isplitr; swap; · iexact G22
      ipureintro; rfl
    isplitl [G23]
    · iexists _; iexists _; isplitr; swap; · iexact G23
      ipureintro; rfl
    isplitl [G24]
    · iexists _; iexists _; isplitr; swap; · iexact G24
      ipureintro; rfl
    isplitl [G25]
    · iexists _; iexists _; isplitr; swap; · iexact G25
      ipureintro; rfl
    iexists _; iexists _; isplitr; swap; · iexact G26
    ipureintro; rfl

end Cert.Mixers

end
-- ==== Proof.Mixers.Frame.lean ====
/- The run of the mixers' call over the idealized kernel. Every point leaves the input windows' blocks as they were, the block of the attention's result at `attention` of the four blocks it reads, the other result's at anything, and the
   scratch buffers at anything. -/
module

public import proofs.«01_k».proof.Proof.Mixers.Run
public import proofs.«01_k».proof.Proof.Mixers.Later
public import Idealize.ShloMosaic.Lib.Claim

@[expose] public section

set_option maxRecDepth 16384

noncomputable section

namespace Cert.Mixers

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev scratch0 := Memref.whole (sig := sig) cc0_scratch0
abbrev scratch1 := Memref.whole (sig := sig) cc0_scratch1
abbrev scratch2 := Memref.whole (sig := sig) cc0_scratch2
abbrev scratch3 := Memref.whole (sig := sig) cc0_scratch3
abbrev scratch4 := Memref.whole (sig := sig) cc0_scratch4
abbrev scratch5 := Memref.whole (sig := sig) cc0_scratch5
abbrev scratch6 := Memref.whole (sig := sig) cc0_scratch6
abbrev scratch7 := Memref.whole (sig := sig) cc0_scratch7
abbrev scratch8 := Memref.whole (sig := sig) cc0_scratch8
abbrev scratch9 := Memref.whole (sig := sig) cc0_scratch9
abbrev scratch10 := Memref.whole (sig := sig) cc0_scratch10

theorem class_eq (c : Dev nD) :
    (Pipeline.ΦA spec0 c : sProp 𝕄)
      = iprop(((∃ d, owns (c : Thread nD τ) scratch0 fullShare d) ∗ (∃ d, owns (c : Thread nD τ) scratch1 fullShare d) ∗ (∃ d, owns (c : Thread nD τ) scratch2 fullShare d) ∗ (∃ d, owns (c : Thread nD τ) scratch3 fullShare d) ∗ (∃ d, owns (c : Thread nD τ) scratch4 fullShare d) ∗ (∃ d, owns (c : Thread nD τ) scratch5 fullShare d) ∗ (∃ d, owns (c : Thread nD τ) scratch6 fullShare d) ∗ (∃ d, owns (c : Thread nD τ) scratch7 fullShare d) ∗ (∃ d, owns (c : Thread nD τ) scratch8 fullShare d) ∗ (∃ d, owns (c : Thread nD τ) scratch9 fullShare d) ∗ (∃ d, owns (c : Thread nD τ) scratch10 fullShare d)) ∗ (∃ r, prngReg c r)) := by
  unfold Pipeline.ΦA; rw [scopedRest0_eq]; simp only [scratch0, scratch1, scratch2, scratch3, scratch4, scratch5, scratch6, scratch7, scratch8, scratch9, scratch10, owns_whole]; try rfl

/-- The windows whose contents are not named. -/
def unnamed (w : Fin cfg0.W) : Bool := w == 13

/-- The proof data: arrays as the region finds them; inputs left at their blocks, the attention block at `attention`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => attention (iblk m c 9 t) (iblk m c 10 t) (iblk m c 11 t) (iblk m c 12 t)
  Φ _ := Pipeline.ΦA spec0 c
  q w := Pipeline.shareOf spec0 w
  owed _ := 0

theorem entry_eq (c : Dev nD) (w : Fin cfg0.W) : (dats m 0 c).A w = V m c (Pipeline.arrRef spec0 w) := by
  dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem left5 (c : Dev nD) (t : Fin cfg0.N) : (dats m 0 c).after 5 t = iblk m c 5 t := by dsimp only [dats]
theorem left6 (c : Dev nD) (t : Fin cfg0.N) : (dats m 0 c).after 6 t = iblk m c 6 t := by dsimp only [dats]
theorem left7 (c : Dev nD) (t : Fin cfg0.N) : (dats m 0 c).after 7 t = iblk m c 7 t := by dsimp only [dats]
theorem left8 (c : Dev nD) (t : Fin cfg0.N) : (dats m 0 c).after 8 t = iblk m c 8 t := by dsimp only [dats]
theorem left9 (c : Dev nD) (t : Fin cfg0.N) : (dats m 0 c).after 9 t = iblk m c 9 t := by dsimp only [dats]
theorem left10 (c : Dev nD) (t : Fin cfg0.N) : (dats m 0 c).after 10 t = iblk m c 10 t := by dsimp only [dats]
theorem left11 (c : Dev nD) (t : Fin cfg0.N) : (dats m 0 c).after 11 t = iblk m c 11 t := by dsimp only [dats]
theorem left12 (c : Dev nD) (t : Fin cfg0.N) : (dats m 0 c).after 12 t = iblk m c 12 t := by dsimp only [dats]
theorem left14 (c : Dev nD) (t : Fin cfg0.N) :
    (dats m 0 c).after 14 t = attention (iblk m c 9 t) (iblk m c 10 t) (iblk m c 11 t) (iblk m c 12 t) := by dsimp only [dats]

theorem finds0 (c : Dev nD) (t : Fin cfg0.N) (d) : (dats m 0 c).before 0 t d = iblk m c 0 t :=
  before0_0_of m (dats m 0 c) (entry_eq m c 0) (left0 m c) t d
theorem finds1 (c : Dev nD) (t : Fin cfg0.N) (d) : (dats m 0 c).before 1 t d = iblk m c 1 t :=
  before0_1_of m (dats m 0 c) (entry_eq m c 1) (left1 m c) t d
theorem finds2 (c : Dev nD) (t : Fin cfg0.N) (d) : (dats m 0 c).before 2 t d = iblk m c 2 t :=
  before0_2_of m (dats m 0 c) (entry_eq m c 2) (left2 m c) t d
theorem finds3 (c : Dev nD) (t : Fin cfg0.N) (d) : (dats m 0 c).before 3 t d = iblk m c 3 t :=
  before0_3_of m (dats m 0 c) (entry_eq m c 3) (left3 m c) t d
theorem finds4 (c : Dev nD) (t : Fin cfg0.N) (d) : (dats m 0 c).before 4 t d = iblk m c 4 t :=
  before0_4_of m (dats m 0 c) (entry_eq m c 4) (left4 m c) t d
theorem finds5 (c : Dev nD) (t : Fin cfg0.N) (d) : (dats m 0 c).before 5 t d = iblk m c 5 t :=
  before0_5_of m (dats m 0 c) (entry_eq m c 5) (left5 m c) t d
theorem finds6 (c : Dev nD) (t : Fin cfg0.N) (d) : (dats m 0 c).before 6 t d = iblk m c 6 t :=
  before0_6_of m (dats m 0 c) (entry_eq m c 6) (left6 m c) t d
theorem finds7 (c : Dev nD) (t : Fin cfg0.N) (d) : (dats m 0 c).before 7 t d = iblk m c 7 t :=
  before0_7_of m (dats m 0 c) (entry_eq m c 7) (left7 m c) t d
theorem finds8 (c : Dev nD) (t : Fin cfg0.N) (d) : (dats m 0 c).before 8 t d = iblk m c 8 t :=
  before0_8_of m (dats m 0 c) (entry_eq m c 8) (left8 m c) t d
theorem finds9 (c : Dev nD) (t : Fin cfg0.N) (d) : (dats m 0 c).before 9 t d = iblk m c 9 t :=
  before0_9_of m (dats m 0 c) (entry_eq m c 9) (left9 m c) t d
theorem finds10 (c : Dev nD) (t : Fin cfg0.N) (d) : (dats m 0 c).before 10 t d = iblk m c 10 t :=
  before0_10_of m (dats m 0 c) (entry_eq m c 10) (left10 m c) t d
theorem finds11 (c : Dev nD) (t : Fin cfg0.N) (d) : (dats m 0 c).before 11 t d = iblk m c 11 t :=
  before0_11_of m (dats m 0 c) (entry_eq m c 11) (left11 m c) t d
theorem finds12 (c : Dev nD) (t : Fin cfg0.N) (d) : (dats m 0 c).before 12 t d = iblk m c 12 t :=
  before0_12_of m (dats m 0 c) (entry_eq m c 12) (left12 m c) t d

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare d)
    ∗ (∃ d, owns (c : Thread nD τ) (st0_14 t) fullShare ((dats m 0 c).before 14 t d)))

/-- What it returns. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ (∃ d, owns (c : Thread nD τ) (st0_13 t) fullShare d)
    ∗ owns (c : Thread nD τ) (st0_14 t) fullShare ((dats m 0 c).after 14 t))

/-- What is carried from point to point. -/
theorem carried (c : Dev nD) (n) : (dats m 0 c).Φ n = (Pipeline.ΦA spec0 c : sProp 𝕄) := by dsimp only [dats]

set_option maxHeartbeats 3200000 in
/-- The body at any point. -/
theorem sound (c : Dev nD) (t : Fin cfg0.N) :
    pre m c t ⊢ wp frame (wpE (defs₀ (F := F)) Variants.none c none) Set.univ (bodyAt0 t) (fun _ => post m c t) := by
  unfold pre post bodyAt0
  simp only [finds0, finds1, finds2, finds3, finds4, finds5, finds6, finds7, finds8, finds9, finds10, finds11, finds12, left0, left1, left2, left3, left4, left5, left6, left7, left8, left9, left10, left11, left12, left14]
  rw [show (dats m 0 c).owesAt () t.succ = (dats m 0 c).owesAt () t.castSucc from rfl, carried, carried, class_eq]
  by_cases hc : Scalar.cmpi .ne (Scalar.extui (Scalar.cmpi .eq (BitVec.ofNat 32 ((grid0.coords t) 0).val) 0#32) : BitVec 32) 0#32 = 1#1
  · iintro ⟨⟨⟨S0, S1, S2, S3, S4, S5, S6, S7, S8, S9, S10⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (run c (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) hc Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iintro ⟨H0, H1, H2, H3, H4, H5, H6, H7, H8, H9, H10, H11, H12, H13, H14, S0, S1, S2, S3, S4, S5, S6, S7, S8, S9, S10⟩
    isplitl [S0 S1 S2 S3 S4 S5 S6 S7 S8 S9 S10 Hg]
    · isplitl [S0 S1 S2 S3 S4 S5 S6 S7 S8 S9 S10]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        iexact S10
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · iintro ⟨⟨⟨S0, S1, S2, S3, S4, S5, S6, S7, S8, S9, S10⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (later c (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) hc Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iintro ⟨H0, H1, H2, H3, H4, H5, H6, H7, H8, H9, H10, H11, H12, H13, H14, S0, S1, S2, S3, S4, S5, S6, S7, S8, S9, S10⟩
    isplitl [S0 S1 S2 S3 S4 S5 S6 S7 S8 S9 S10 Hg]
    · isplitl [S0 S1 S2 S3 S4 S5 S6 S7 S8 S9 S10]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        iexact S10
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- The body table's row at a point. -/
theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ unnamed := fun t => by
  rw [bigSep_W0, bigSep_W0, row_eq]
  exact triple_restated (sound m c t) rfl .rfl fun _ => .rfl

set_option backward.isDefEq.respectTransparency.types false in
/-- The launch: every array of the pipeline whose contents are named ends at what the proof data make of it, every other
    buffer as the region found it, every counter at zero. -/
theorem launch : θ_run defs (onTc (τ := τ) (main (F := F))) (s₀ m ρ)
    (fun r => RDat.FramePost (cfgs 0) (fun c => (dats m 0 c).toRForget unnamed) (V m) r ∧ r.2.sem = fun _ => 0) :=
  Pipeline.θ_run_frame_track_forget_shared (Q' := _) cfgs (dats m) (0 : Fin 1) launch₀0 defs₀ Variants.none unnamed m ρ main
    (hbody := fun c => (obligation m c).loose) (hq := fun _ _ _ => rfl)
    (howed := fun _ _ => rfl) (V := V m) (hmain := hmain m Variants.none) (hA := entry_eq m)
    (hin := fun c => by rw [carried]) (hout := fun c => by rw [carried])

/-- The arguments after a run. -/
theorem kept (r) (h : RDat.FramePost (cfgs 0) (fun c => (dats m 0 c).toRForget unnamed) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h.arr_in c 12 rfl).trans ((entry_eq m c 12).trans (V_main_arg0 m c)),
    ((h c).2 main_arg1 (Pipeline.mem_restRefs_of main_arg1 (by decide) (by decide))).trans (V_main_arg1 m c),
    (h.arr_in c 6 rfl).trans ((entry_eq m c 6).trans (V_main_arg2 m c)),
    ((h c).2 main_arg3 (Pipeline.mem_restRefs_of main_arg3 (by decide) (by decide))).trans (V_main_arg3 m c)⟩

/-- The frame of the call. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨kept m r h.1, h.2⟩) (launch m ρ)

/-- The run with the attention's result named. -/
theorem named : θ_run defs (onTc (τ := τ) (main (F := F))) ⟨m, fun _ => 0, ρ⟩ (fun r => ∀ c : Dev nD,
      r.2.mem ((c.tc : Thread nD τ).loc main_v3_1) = (dats m 0 c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((dats m 0 c).toRForget_arrAt_iff (w := 14) rfl _ _).mp ((h.1 c).1 14), kept m r h.1 c⟩) (launch m ρ)

end Cert.Mixers

end
-- ==== Proof.Mixers.Select.lean ====
/- The attention over real numbers, and the choice of the blocks: the blocks that fewer than three others come before are
   the first three of the stable sort by the gate, largest first, masked blocks last. -/
module

public import Idealize.ShloMosaic.Lib.Pipeline.ValueKit
public import Idealize.ShloMosaic.Lib.SortPrefix

@[expose] public section

noncomputable section

namespace Cert.Mixers

open Idealize.ShloMosaic

/-- The product of a query with a key. -/
def match' (q k : ℕ → Fin 128 → ℝ) (r j : ℕ) : ℝ := ∑ d, k j d * q r d

/-- The mean key of block `n`. -/
def meanKey (k : ℕ → Fin 128 → ℝ) (n : ℕ) (d : Fin 128) : ℝ := ∑ p : Fin 256, 1 / 256 * k (256 * n + p.val) d

/-- The gate of block `n` for a query. -/
def gateOf (q k : ℕ → Fin 128 → ℝ) (r n : ℕ) : ℝ := ∑ d, meanKey k n d * q r d

/-- Block `m` comes before block `n`: its gate is greater, or equal and the block earlier. -/
def Before (g : ℕ → ℝ) (m n : ℕ) : Prop := g n < g m ∨ (g m = g n ∧ m < n)

open Classical in
/-- How many of the first `i` blocks come before block `n`. -/
def standing (g : ℕ → ℝ) (i n : ℕ) : ℕ := ((Finset.range i).filter fun m => Before g m n).card

/-- Whether a query of block `i` attends to the earlier block `n`. -/
def Chosen (g : ℕ → ℝ) (i n : ℕ) : Prop := i ≤ 3 ∨ standing g i n < 3

/-- Whether query `a` of block `i` attends to key `p` of block `n`. -/
def Seen (q k : ℕ → Fin 128 → ℝ) (i a n p : ℕ) : Prop := (n < i ∧ Chosen (gateOf q k (256 * i + a)) i n) ∨ (n = i ∧ p ≤ a)

open Classical in
/-- The weight of key `p` of block `n` for query `a` of block `i`. -/
def weight (q k : ℕ → Fin 128 → ℝ) (i a n p : ℕ) : ℝ :=
  if Seen q k i a n p then Real.exp (Real.log 2 * match' q k (256 * i + a) (256 * n + p)) else 0

/-- The weighted sum of `f` over the keys of the blocks up to a query's own. -/
def total (q k : ℕ → Fin 128 → ℝ) (i a : ℕ) (f : ℕ → ℝ) : ℝ :=
  ∑ n ∈ Finset.range (i + 1), ∑ p : Fin 256, weight q k i a n p.val * f (256 * n + p.val)

/-- The attention of a query and its gate. -/
def attend (q k v z : ℕ → Fin 128 → ℝ) (i a : ℕ) (d : Fin 128) : ℝ :=
  total q k i a (fun j => v j d) / total q k i a (fun _ => 1) * (z (256 * i + a) d * (1 + Real.exp (-z (256 * i + a) d))⁻¹)

/-! ## The sort -/

theorem stableSort_of_pairwise {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- Position `k` comes before `k'`: its key is greater, or equal and the position earlier. -/
def first (key : Fin 8 → EReal) (k k' : Fin 8) : Bool :=
  decide (key k' < key k) || (decide (key k = key k') && decide (k < k'))

theorem first_total (key : Fin 8 → EReal) : StrictTotalBefore (first key) := by
  unfold first
  convert StrictTotalBefore.of_key_then_position (fun a b : EReal => decide (b < a)) key (fun a => by simp)
    (fun a b c hab hbc => by simp only [decide_eq_true_eq] at *; exact hbc.trans hab)
    (fun a b => by simp only [decide_eq_true_eq]; rcases lt_trichotomy a b with h | h | h <;> tauto) using 5

/-- The source of position `k` of the stable sort by the key, greatest first. -/
def source (key : Fin 8 → EReal) : Fin 8 → Fin 8 := sortedFrom (first key)

theorem sortedFrom_eq (key : Fin 8 → EReal) (B : Fin 8 → Fin 8 → Bool) (hB : ∀ k k', B k k' = decide (key k' < key k)) :
    sortedFrom B = source key := by
  have h : sortPositions 8 B = sortPositions 8 (first key) := by
    refine stableSort_of_pairwise _ _ _ ?_
    refine (List.pairwise_lt_finRange 8).imp fun {a b} hab => ?_
    have : ¬ b < a := not_lt.mpr hab.le
    simp [hB, first, this]
  funext k
  unfold source sortedFrom
  rw [List.get_of_eq h]
  rfl

theorem first_source (key : Fin 8 → EReal) (j k : Fin 8) : first key (source key j) (source key k) = true ↔ j < k := by
  have hB := first_total key
  have no : ∀ i j : Fin 8, i < j → first key (source key j) (source key i) = false := fun i j h =>
    sortedFrom_noInversion (first key) (first key) hB.asymm (fun _ _ h => h) hB.negTrans i j h
  constructor
  · intro h
    by_contra hn
    rcases (not_lt.mp hn).lt_or_eq with hl | he
    · rw [no k j hl] at h; exact absurd h (by decide)
    · rw [he, hB.irrefl] at h; exact absurd h (by decide)
  · intro h
    rcases hB.total (source key j) (source key k) (fun e => h.ne (sortedFrom_injective _ e)) with e | e
    · exact e
    · rw [no j k h] at e; exact absurd e (by decide)

/-- How many positions come before one. -/
def count (key : Fin 8 → EReal) (n : Fin 8) : ℕ := (Finset.univ.filter fun m => first key m n = true).card

theorem count_source (key : Fin 8 → EReal) (k : Fin 8) : count key (source key k) = k.val := by
  unfold count
  have e : (Finset.univ.filter fun m => first key m (source key k) = true)
      = (Finset.univ.filter fun j : Fin 8 => j < k).map ⟨source key, sortedFrom_injective _⟩ := by
    ext m
    simp only [Finset.mem_filter, Finset.mem_univ, true_and, Finset.mem_map, Function.Embedding.coeFn_mk]
    constructor
    · intro h
      obtain ⟨j, rfl⟩ := sortedFrom_surjective (first key) m
      exact ⟨j, (first_source key j k).mp h, rfl⟩
    · rintro ⟨j, hj, rfl⟩
      exact (first_source key j k).mpr hj
  rw [e, Finset.card_map, Finset.filter_gt_eq_Iio, Fin.card_Iio]

variable {key : Fin 8 → EReal} {g : ℕ → ℝ} {c : ℝ} {i : ℕ}

theorem first_iff (hc : 0 < c) (hk : ∀ n : Fin 8, key n = if n.val < i then ((c * g n.val : ℝ) : EReal) else ⊥) (m n : Fin 8)
    (hn : n.val < i) : first key m n = true ↔ m.val < i ∧ Before g m.val n.val := by
  unfold first Before
  simp only [hk, if_pos hn, Bool.or_eq_true, Bool.and_eq_true, decide_eq_true_eq]
  by_cases hm : m.val < i
  · rw [if_pos hm, EReal.coe_lt_coe_iff, EReal.coe_eq_coe_iff, mul_lt_mul_iff_right₀ hc, mul_right_inj' hc.ne', Fin.lt_def]
    simp only [hm, true_and]
  · rw [if_neg hm]
    simp only [hm, false_and, iff_false, not_or, not_and]
    exact ⟨not_lt_bot, fun h => absurd h.symm (EReal.coe_ne_bot _)⟩

theorem count_eq (hi : i ≤ 8) (hc : 0 < c) (hk : ∀ n : Fin 8, key n = if n.val < i then ((c * g n.val : ℝ) : EReal) else ⊥) (n : Fin 8)
    (hn : n.val < i) : count key n = standing g i n.val := by
  classical
  unfold count standing
  refine Finset.card_bij (fun m _ => m.val) ?_ (fun _ _ _ _ h => Fin.ext h) ?_
  · intro m hm
    have := (first_iff hc hk m n hn).mp (Finset.mem_filter.mp hm).2
    exact Finset.mem_filter.mpr ⟨Finset.mem_range.mpr this.1, this.2⟩
  · intro b hb
    have hb := Finset.mem_filter.mp hb
    have hlt : b < i := Finset.mem_range.mp hb.1
    exact ⟨⟨b, by omega⟩, Finset.mem_filter.mpr ⟨Finset.mem_univ _, (first_iff hc hk _ n hn).mpr ⟨hlt, hb.2⟩⟩, rfl⟩

theorem standing_lt {n : ℕ} (hn : n < i) : standing g i n < i := by
  classical
  unfold standing
  have : ((Finset.range i).filter fun m => Before g m n) ⊂ Finset.range i :=
    Finset.filter_ssubset.mpr ⟨n, Finset.mem_range.mpr hn, fun h => by
      rcases h with h | h
      · exact lt_irrefl _ h
      · exact lt_irrefl _ h.2⟩
  exact (Finset.card_lt_card this).trans_eq (Finset.card_range i)

theorem le_count (hi : i ≤ 8) (hk : ∀ n : Fin 8, key n = if n.val < i then ((c * g n.val : ℝ) : EReal) else ⊥) (n : Fin 8)
    (hn : ¬ n.val < i) : i ≤ count key n := by
  unfold count
  have : (Finset.univ.filter fun m : Fin 8 => m.val < i).card = i := by
    rw [Fin.card_filter_val_lt]; omega
  rw [← this]
  refine Finset.card_le_card fun m hm => ?_
  have hm := (Finset.mem_filter.mp hm).2
  refine Finset.mem_filter.mpr ⟨Finset.mem_univ _, ?_⟩
  unfold first
  rw [hk, hk, if_pos hm, if_neg hn, decide_eq_true (EReal.bot_lt_coe _), Bool.true_or]

/-- A block a query attends to is a place among the first three that there are. -/
theorem chosen_iff (hi : i ≤ 8) (hc : 0 < c) (hk : ∀ n : Fin 8, key n = if n.val < i then ((c * g n.val : ℝ) : EReal) else ⊥)
    (k : Fin 8) : ((source key k).val < i ∧ Chosen g i (source key k).val) ↔ k.val < i ∧ k.val < 3 := by
  by_cases hn : (source key k).val < i
  · have e : standing g i (source key k).val = k.val := (count_eq hi hc hk _ hn).symm.trans (count_source key k)
    have l := standing_lt (g := g) hn
    unfold Chosen
    rw [e] at l ⊢
    constructor
    · rintro ⟨_, h⟩; exact ⟨l, by omega⟩
    · rintro ⟨_, h⟩; exact ⟨hn, .inr h⟩
  · have l := le_count hi hk _ hn
    rw [count_source] at l
    constructor
    · rintro ⟨h, _⟩; exact absurd h hn
    · rintro ⟨h, _⟩; omega

open Classical in
/-- A sum over the blocks a query attends to is a sum over the places. -/
theorem sum_chosen (hi : i ≤ 8) (hc : 0 < c) (hk : ∀ n : Fin 8, key n = if n.val < i then ((c * g n.val : ℝ) : EReal) else ⊥)
    (f : ℕ → ℝ) : ∑ n ∈ Finset.range i, (if Chosen g i n then f n else 0)
      = ∑ t : Fin 3, if t.val < i then f (source key (t.castLE (by decide))).val else 0 := by
  have e1 : ∑ n ∈ Finset.range i, (if Chosen g i n then f n else 0)
      = ∑ n : Fin 8, if n.val < i ∧ Chosen g i n.val then f n.val else 0 := by
    rw [Fin.sum_univ_eq_sum_range (fun n => if n < i ∧ Chosen g i n then f n else 0) 8,
      ← Finset.sum_subset (Finset.range_mono hi) (fun n _ hn => by
        rw [if_neg]; rintro ⟨h, _⟩; exact hn (Finset.mem_range.mpr h))]
    refine Finset.sum_congr rfl fun n hn => ?_
    simp [Finset.mem_range.mp hn]
  have e2 : ∑ n : Fin 8, (if n.val < i ∧ Chosen g i n.val then f n.val else 0)
      = ∑ t : Fin 8, if t.val < i ∧ t.val < 3 then f (source key t).val else 0 := by
    have b : Function.Bijective (source key) := ⟨sortedFrom_injective (first key), sortedFrom_surjective (first key)⟩
    refine (b.sum_comp fun n : Fin 8 => if n.val < i ∧ Chosen g i n.val then f n.val else 0).symm.trans ?_
    exact Finset.sum_congr rfl fun t _ => if_congr (chosen_iff hi hc hk t) rfl rfl
  rw [e1, e2, Fin.sum_univ_eight, Fin.sum_univ_three]
  simp

end Cert.Mixers
-- ==== Proof.Mixers.Element.lean ====
/- What the attention stores of a block of queries, read at an element over real numbers. -/
module

public import proofs.«01_k».proof.Proof.InProj.Scalars
public import proofs.«01_k».proof.Proof.Mixers.Blocks
public import proofs.«01_k».proof.Proof.Mixers.Select

@[expose] public section

set_option maxRecDepth 16384

noncomputable section

namespace Cert.Mixers

open Cert.Kernel3Ideal Cert.Kernel3Ideal.Gen
open Idealize.ShloMosaic Idealize.ShloMosaic.TcCoe Idealize.ShloMosaic.Tactic

theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- A sum over 2048 positions, block by block. -/
theorem sum_blocks (f : ℕ → ℝ) : ∑ j : Fin 2048, f j.val = ∑ b : Fin 8, ∑ p : Fin 256, f (256 * b.val + p.val) := by
  rw [← Fintype.sum_prod_type' (f := fun (b : Fin 8) (p : Fin 256) => f (256 * b.val + p.val))]
  refine (Fintype.sum_equiv (finProdFinEquiv (m := 8) (n := 256)) _ (fun j : Fin 2048 => f j.val) fun x => ?_).symm
  congr 1
  exact (Nat.add_comm _ _)

theorem masked : (Named.named κ "mask" 0xF149F2CA#32 : Ideal .f32) = ⊥ := rfl

theorem mean_val : Ideal.ofBits .f32 998244352#32 = ((1 / 256 : ℝ) : EReal) := by
  simp [Ideal.ofBits, Ideal.ieee, -EReal.coe_mul]; norm_num

theorem one_val : Ideal.ofBits .f32 1065353216#32 = ((1 : ℝ) : EReal) := by
  simp [Ideal.ofBits, Ideal.ieee, -EReal.coe_mul]; norm_num

/-- A position's block, in the kernel's words. -/
theorem block_word : ∀ j : Fin 2048, Scalar.select
    (IntOp.andi
      (IntOp.cmpi .ne
        (IntOp.subi (BitVec.setWidth 32 (IntOp.cmpi .sgt (BitVec.ofNat 32 j.val) 0#32))
          (BitVec.setWidth 32 (IntOp.cmpi .slt (BitVec.ofNat 32 j.val) 0#32))) 1#32)
      (IntOp.cmpi .ne (IntOp.remsi ArithUnit.vector (BitVec.ofNat 32 j.val) 256#32) 0#32))
    (IntOp.subi (IntOp.divsi ArithUnit.vector (BitVec.ofNat 32 j.val) 256#32) 1#32)
    (IntOp.divsi ArithUnit.vector (BitVec.ofNat 32 j.val) 256#32) = BitVec.ofNat 32 (j.val / 256) := by
  decide +kernel

theorem same_word : ∀ (n : Fin 128) (b : Fin 8),
    IntOp.cmpi .eq (BitVec.ofNat 32 n.val) (BitVec.ofNat 32 b.val) = BitVec.ofBool (decide (b.val = n.val)) := by
  decide +kernel

theorem after_word : ∀ n m : Fin 8, IntOp.cmpi .sgt (BitVec.ofNat 32 n.val) (BitVec.ofNat 32 m.val) = BitVec.ofBool (decide (m < n)) := by
  decide +kernel

theorem three_word : ∀ s : Fin 9, IntOp.cmpi .sge (BitVec.ofNat 32 s.val) 3#32 = BitVec.ofBool (decide (3 ≤ s.val)) := by
  decide +kernel

theorem upto_word (a b : ℕ) (ha : a < 256) (hb : b < 256) :
    IntOp.cmpi .sle (BitVec.ofNat 32 a) (BitVec.ofNat 32 b) = BitVec.ofBool (decide (a ≤ b)) := by
  have h : (BitVec.ofNat 32 a).sle (BitVec.ofNat 32 b) = decide (a ≤ b) := by
    rw [BitVec.sle_eq_decide, BitVec.toInt_eq_toNat_of_lt (by rw [BitVec.toNat_ofNat]; omega),
      BitVec.toInt_eq_toNat_of_lt (by rw [BitVec.toNat_ofNat]; omega), BitVec.toNat_ofNat, BitVec.toNat_ofNat]
    rw [Nat.mod_eq_of_lt (by omega), Nat.mod_eq_of_lt (by omega)]
    simp
  rw [← h]
  rfl

theorem select_decide {α : Type} (p : Prop) [Decidable p] (x y : α) :
    Scalar.select (BitVec.ofBool (decide p)) x y = if p then x else y := by
  by_cases h : p
  · rw [decide_eq_true h, if_pos h]; rfl
  · rw [decide_eq_false h, if_neg h]; rfl

theorem weights_apply (n : Fin 128) (j : Fin 2048) :
    (weights (F := Ideal)) (ix2 n j) = ((if j.val / 256 = n.val then 1 / 256 else 0 : ℝ) : EReal) := by
  have e : (weights (F := Ideal)) (ix2 n j)
      = Scalar.select (IntOp.cmpi .eq (BitVec.ofNat 32 n.val) (BitVec.ofNat 32 (j.val / 256))) (Ideal.ofBits .f32 998244352#32) 0 := by
    rw [← block_word j]
    unfold weights
    pointwise
  rw [e, mean_val, same_word n ⟨j.val / 256, by omega⟩, select_decide]
  split <;> rfl

variable (q k v z : ℕ → Fin 128 → ℝ)

theorem means_apply (K : FVec Ideal S2048x128 .bf16) (hK : ∀ (j : Fin 2048) d, K (ix2 j d) = (k j.val d : EReal)) (n : Fin 128)
    (hn : n.val < 8) (d : Fin 128) : means K (ix2 n d) = (meanKey k n.val d : EReal) := by
  have e : means K (ix2 n d) = ∑ j : Fin 2048, (weights (F := Ideal)) (ix2 n j) * K (ix2 j d) := by
    unfold means
    pointwise
  rw [e]
  simp only [weights_apply, hK, ← EReal.coe_mul]
  rw [← coe_sum]
  refine congrArg _ ?_
  rw [sum_blocks fun j => (if j / 256 = n.val then 1 / 256 else 0) * k j d, Finset.sum_eq_single (⟨n.val, hn⟩ : Fin 8)]
  · unfold meanKey
    refine Finset.sum_congr rfl fun p _ => ?_
    rw [if_pos (by have := p.isLt; show (256 * n.val + p.val) / 256 = n.val; omega)]
  · intro b _ hb
    refine Finset.sum_eq_zero fun p _ => ?_
    rw [if_neg (fun h => hb (Fin.ext (by have := p.isLt; show b.val = n.val; omega))), zero_mul]
  · intro h; exact absurd (Finset.mem_univ _) h

theorem gates_apply (K : FVec Ideal S2048x128 .bf16) (hK : ∀ (j : Fin 2048) d, K (ix2 j d) = (k j.val d : EReal))
    (Q : FVec Ideal S256x128 .bf16) (i : ℕ) (hQ : ∀ (a : Fin 256) d, Q (ix2 a d) = (q (256 * i + a.val) d : EReal))
    (n : Fin 16) (hn : n.val < 8) (a : Fin 256) : gates K Q (ix2 n a) = (gateOf q k (256 * i + a.val) n.val : EReal) := by
  have e : gates K Q (ix2 n a) = ∑ d : Fin 128, means K (ix2 (⟨n.val, by omega⟩ : Fin 128) d) * Q (ix2 a d)
      + ∑ d : Fin 128, (means K (ix2 (⟨n.val, by omega⟩ : Fin 128) d) - means K (ix2 (⟨n.val, by omega⟩ : Fin 128) d)) * Q (ix2 a d) := by
    unfold gates
    generalize means K = M
    pointwise
  rw [e]
  simp only [means_apply k K hK ⟨n.val, by omega⟩ hn, hQ, ← EReal.coe_mul, ← EReal.coe_sub, sub_self, zero_mul]
  rw [← coe_sum, ← coe_sum, ← EReal.coe_add]
  simp [gateOf]

/-- The three best are counted in words. -/
theorem rank_apply (g : FVec Ideal S16x256 .f32) (G : ℕ → ℝ) (a : Fin 256) (hg : ∀ n : Fin 16, n.val < 8 → g (ix2 n a) = (G n.val : EReal))
    (n : Fin 16) (hn : n.val < 8) (i : ℕ) (hi : i ≤ 8) : rank g i (ix2 n a) = BitVec.ofNat 32 (standing G i n.val) := by
  classical
  induction i with
  | zero => simp [rank, standing]; rfl
  | succ i ih =>
    have e : rank g (i + 1) (ix2 n a) = rank g i (ix2 n a) + (ahead g i (ix2 n a)).setWidth 32 := by
      rfl
    have ea : ahead g i (ix2 n a) = BitVec.ofBool (decide (Before G i n.val)) := by
      unfold ahead gateRow rowNo
      pointwise
      have hm : i % 16 = i := by omega
      rw [hg n hn, hg _ (by show i % 16 < 8; omega), after_word ⟨n.val, hn⟩ ⟨i, by omega⟩]
      simp only [hm, EReal.coe_lt_coe_iff, EReal.coe_eq_coe_iff]
      by_cases h1 : G n.val < G i <;> by_cases h2 : G i = G n.val <;> by_cases h3 : i < n.val <;>
        simp [Before, h1, h2, h3] <;> rfl
    rw [e, ea, ih (by omega)]
    unfold standing
    rw [Finset.range_add_one, Finset.filter_insert]
    by_cases h : Before G i n.val
    · rw [if_pos h, Finset.card_insert_of_notMem (by simp), decide_eq_true h, BitVec.ofNat_add]
      rfl
    · rw [if_neg h, decide_eq_false h]
      simp

end Cert.Mixers
-- ==== Proof.Mixers.Stored.lean ====
/- The attention's result of a block of queries over real numbers: the masked products, their softmax and the gate. -/
module

public import proofs.«01_k».proof.Proof.Mixers.Element

@[expose] public section

set_option maxRecDepth 16384

noncomputable section

namespace Cert.Mixers

open Cert.Kernel3Ideal Cert.Kernel3Ideal.Gen
open Idealize.ShloMosaic Idealize.ShloMosaic.TcCoe Idealize.ShloMosaic.Tactic

/-- The loaded vectors of query block `i` hold the reals `q`, `k`, `v`, `z`. -/
structure Holds (q k v z : ℕ → Fin 128 → ℝ) (i : ℕ) (K : FVec Ideal S2048x128 .bf16) (Q : FVec Ideal S256x128 .bf16)
    (ks vs : ℕ → FVec Ideal S256x128 .bf16) (Z : FVec Ideal S256x128 .bf16) : Prop where
  all : ∀ (j : Fin 2048) d, K (ix2 j d) = (k j.val d : EReal)
  query : ∀ (a : Fin 256) d, Q (ix2 a d) = (q (256 * i + a.val) d : EReal)
  key : ∀ n < 8, ∀ (p : Fin 256) d, ks n (ix2 p d) = (k (256 * n + p.val) d : EReal)
  val : ∀ n < 8, ∀ (p : Fin 256) d, vs n (ix2 p d) = (v (256 * n + p.val) d : EReal)
  gate : ∀ (a : Fin 256) d, Z (ix2 a d) = (z (256 * i + a.val) d : EReal)

variable {q k v z : ℕ → Fin 128 → ℝ} {i : ℕ} {K : FVec Ideal S2048x128 .bf16} {Q : FVec Ideal S256x128 .bf16}
    {ks vs : ℕ → FVec Ideal S256x128 .bf16} {Z : FVec Ideal S256x128 .bf16}

theorem product_apply (h : Holds q k v z i K Q ks vs Z) (n : ℕ) (hn : n < 8) (p a : Fin 256) :
    product Q (ks n) (ix2 p a) = (match' q k (256 * i + a.val) (256 * n + p.val) : EReal) := by
  have e : product Q (ks n) (ix2 p a) = ∑ d : Fin 128, ks n (ix2 p d) * Q (ix2 a d) := by
    unfold product
    pointwise
  rw [e]
  simp only [h.key n hn, h.query, ← EReal.coe_mul]
  rw [← coe_sum]
  rfl

open Classical in
theorem scores_apply (h : Holds q k v z i K Q ks vs Z) (hi : i < 8) (n : ℕ) (hn : n ≤ i) (p a : Fin 256) :
    scores K Q ks i n (ix2 p a)
      = if Seen q k i a.val n p.val then (match' q k (256 * i + a.val) (256 * n + p.val) : EReal) else ⊥ := by
  unfold scores
  rcases hn.lt_or_eq with hn | rfl
  · have hlt : Nat.blt n i = true := by simpa using hn
    rw [hlt, cond_true]
    have seen : Seen q k i a.val n p.val ↔ Chosen (gateOf q k (256 * i + a.val)) i n := by
      unfold Seen
      constructor
      · rintro (⟨_, h⟩ | ⟨h, _⟩)
        · exact h
        · omega
      · exact fun h => .inl ⟨hn, h⟩
    rw [if_congr seen rfl rfl]
    by_cases h3 : 3 < i
    · have hlt3 : Nat.blt 3 i = true := by simpa using h3
      rw [hlt3, cond_true]
      have e : addf (product Q (ks n)) (broadcastTo S256x256 (extractStridedSlice S1x256 ![n % 16, 0] (bias (gates K Q) i) (slices16 n))
            broadcasts_S1x256_S256x256) (ix2 p a)
          = product Q (ks n) (ix2 p a) + bias (gates K Q) i (ix2 (⟨n % 16, by omega⟩ : Fin 16) a) := by
        generalize product Q (ks n) = P
        generalize bias (gates K Q) i = B
        pointwise
      have hm : n % 16 = n := by omega
      have r := rank_apply (gates K Q) (gateOf q k (256 * i + a.val)) a
        (fun n hn => gates_apply q k K h.all Q i h.query n hn a) (⟨n % 16, by omega⟩ : Fin 16) (by show n % 16 < 8; omega) i hi.le
      have b : bias (gates K Q) i (ix2 (⟨n % 16, by omega⟩ : Fin 16) a)
          = if 3 ≤ standing (gateOf q k (256 * i + a.val)) i n then ⊥ else 0 := by
        have s : standing (gateOf q k (256 * i + a.val)) i n < i := standing_lt hn
        unfold bias
        pointwise
        rw [r]
        simp only [hm]
        rw [three_word ⟨standing (gateOf q k (256 * i + a.val)) i n, by omega⟩, select_decide, masked]
      rw [e, b, product_apply h n (by omega)]
      unfold Chosen
      by_cases hs : 3 ≤ standing (gateOf q k (256 * i + a.val)) i n
      · rw [if_pos hs, if_neg (by omega), EReal.add_bot]
      · rw [if_neg hs, if_pos (by omega), add_zero]
    · have hlt3 : Nat.blt 3 i = false := by
        rw [Bool.eq_false_iff]; intro h; exact h3 (by simpa using h)
      rw [hlt3, cond_false, product_apply h n (by omega), if_pos]
      exact .inl (by omega)
  · have hlt : Nat.blt n n = false := by
      rw [Bool.eq_false_iff]; intro h; exact lt_irrefl n (by simpa using h)
    rw [hlt, cond_false]
    have seen : Seen q k n a.val n p.val ↔ p.val ≤ a.val := by unfold Seen; constructor <;> intro h <;> simp_all
    have e : select (cmpi .sle (iota .tc S256x256 32 [0] (by decide)) (iota .tc S256x256 32 [1] (by decide))) (product Q (ks n))
          (broadcast S256x256 (Named.named κ "mask" 0xF149F2CA#32 : Ideal .f32)) (ix2 p a)
        = Scalar.select (IntOp.cmpi .sle (BitVec.ofNat 32 p.val) (BitVec.ofNat 32 a.val)) (product Q (ks n) (ix2 p a)) ⊥ := by
      rw [← masked]
      generalize product Q (ks n) = P
      pointwise
    rw [e, upto_word _ _ p.isLt a.isLt, select_decide, product_apply h n hi, if_congr seen rfl rfl]

/-! ## The greatest score -/

theorem greatest_ne_top (s : ℕ → FVec Ideal S256x256 .f32) (y : S256x256.Idx) (n : ℕ) (h : ∀ m ≤ n, s m y ≠ ⊤) : greatest s n y ≠ ⊤ := by
  induction n with
  | zero => exact h 0 le_rfl
  | succ n ih =>
    show max (greatest s n y) (s (n + 1) y) ≠ ⊤
    exact (max_lt ((ih fun m hm => h m (by omega)).lt_top) ((h (n + 1) le_rfl).lt_top)).ne

theorem le_greatest (s : ℕ → FVec Ideal S256x256 .f32) (y : S256x256.Idx) (n : ℕ) : s n y ≤ greatest s n y := by
  cases n with
  | zero => exact le_rfl
  | succ n => exact le_max_right (greatest s n y) (s (n + 1) y)

theorem lowest_val : Ideal.ofBits .f32 4286578688#32 = ⊥ := by
  simp [Ideal.ofBits, Ideal.ieee]

theorem peak_apply (s : ℕ → FVec Ideal S256x256 .f32) (i : ℕ) (a : Fin 256) (h : ∀ m ≤ i, ∀ p : Fin 256, s m (ix2 p a) ≠ ⊤)
    (p₀ : Fin 256) (h₀ : s i (ix2 p₀ a) ≠ ⊥) : ∃ M : ℝ, peak s i (ix2 0 a) = (M : EReal) := by
  have e : peak s i (ix2 0 a) = Finset.fold max ⊥ (fun p : Fin 256 => greatest s i (ix2 p a)) Finset.univ := by
    rw [← lowest_val]
    unfold peak
    pointwise
  have t : peak s i (ix2 0 a) < ⊤ := by
    rw [e, Finset.fold_max_lt]
    exact ⟨bot_lt_top, fun p _ => (greatest_ne_top s _ i fun m hm => h m hm p).lt_top⟩
  have b : ⊥ < peak s i (ix2 0 a) := by
    rw [e, Finset.lt_fold_max]
    exact .inr ⟨p₀, Finset.mem_univ _, h₀.bot_lt.trans_le (le_greatest s _ i)⟩
  exact ⟨(peak s i (ix2 0 a)).toReal, (EReal.coe_toReal t.ne b.ne').symm⟩

/-! ## The weights and their sums -/

theorem rpow_two (x : ℝ) : Real.rpow 2 x = Real.exp (Real.log 2 * x) := Real.rpow_def_of_pos (by norm_num) x

theorem expo_apply (h : Holds q k v z i K Q ks vs Z) (hi : i < 8) (a : Fin 256) :
    ∃ t : ℝ, t ≠ 0 ∧ ∀ n ≤ i, ∀ p : Fin 256, expo (scores K Q ks i) i n (ix2 p a) = ((weight q k i a.val n p.val * t : ℝ) : EReal) := by
  classical
  obtain ⟨M, hM⟩ := peak_apply (scores K Q ks i) i a
    (fun m hm p => by rw [scores_apply h hi m hm]; split <;> simp) a (by
      rw [scores_apply h hi i le_rfl, if_pos (.inr ⟨rfl, le_rfl⟩)]; simp)
  refine ⟨Real.exp (-(Real.log 2 * M)), (Real.exp_pos _).ne', fun n hn p => ?_⟩
  have e : expo (scores K Q ks i) i n (ix2 p a) = Ideal.exp2 (scores K Q ks i n (ix2 p a) - peak (scores K Q ks i) i (ix2 0 a)) := by
    unfold expo
    generalize peak (scores K Q ks i) i = P
    generalize scores K Q ks i n = T
    pointwise
    rfl
  rw [e, hM, scores_apply h hi n hn]
  unfold weight
  by_cases hs : Seen q k i a.val n p.val
  · rw [if_pos hs, if_pos hs, ← EReal.coe_sub, Ideal.exp2_coe, rpow_two, ← Real.exp_add, mul_sub, sub_eq_add_neg]
  · rw [if_neg hs, if_neg hs, EReal.bot_sub, Ideal.exp2_bot, zero_mul, EReal.coe_zero]

theorem mass_apply {t : ℝ} {w : ℕ → ℝ} (s : ℕ → FVec Ideal S256x256 .f32) (y : S256x256.Idx) (i n : ℕ)
    (h : ∀ m ≤ n, expo s i m y = ((w m * t : ℝ) : EReal)) : mass s i n y = ((∑ m ∈ Finset.range (n + 1), w m * t : ℝ) : EReal) := by
  induction n with
  | zero => rw [Finset.sum_range_one]; exact h 0 le_rfl
  | succ n ih =>
    rw [Finset.sum_range_succ, EReal.coe_add, ← ih fun m hm => h m (by omega), ← h (n + 1) le_rfl]
    rfl

theorem blend_apply (h : Holds q k v z i K Q ks vs Z) {t : ℝ} (s : ℕ → FVec Ideal S256x256 .f32) (a : Fin 256) (c : Fin 128)
    (w : ℕ → ℕ → ℝ) (n : ℕ) (hn : n ≤ 8) (hs : ∀ m < n, ∀ p : Fin 256, expo s i m (ix2 p a) = ((w m p.val * t : ℝ) : EReal)) :
    blend s vs i n (ix2 c a) = ((∑ m ∈ Finset.range n, ∑ p : Fin 256, v (256 * m + p.val) c * (w m p.val * t) : ℝ) : EReal) := by
  induction n with
  | zero =>
    rw [Finset.sum_range_zero]
    exact (Ideal.ofBits_zero_f32).trans EReal.coe_zero.symm
  | succ n ih =>
    have e : blend s vs i (n + 1) (ix2 c a) = blend s vs i n (ix2 c a) + ∑ x, vs n (ix2 x c) * expo s i n (ix2 x a) := by
      show addf (blend s vs i n) _ (ix2 c a) = _
      generalize blend s vs i n = B
      unfold turned
      pointwise
    rw [e, ih (by omega) (fun m hm => hs m (by omega)), Finset.sum_range_succ, EReal.coe_add]
    simp only [h.val n (by omega), hs n (by omega), ← EReal.coe_mul]
    rw [← coe_sum]

/-- The gate through the hyperbolic tangent. -/
theorem gated_real (r : ℝ) : 1 / 2 * r * (1 + Real.tanh (1 / 2 * r)) = r * (1 + Real.exp (-r))⁻¹ := by
  rw [← Scalars.real_gate]; ring

theorem weight_pos (q k : ℕ → Fin 128 → ℝ) (i a n p : ℕ) : 0 ≤ weight q k i a n p := by
  unfold weight; split
  · exact (Real.exp_pos _).le
  · exact le_rfl

theorem total_pos (q k : ℕ → Fin 128 → ℝ) (i : ℕ) (a : Fin 256) : 0 < total q k i a.val (fun _ => 1) := by
  unfold total
  refine Finset.sum_pos' (fun n _ => Finset.sum_nonneg fun p _ => by rw [mul_one]; exact weight_pos _ _ _ _ _ _)
    ⟨i, Finset.mem_range.mpr (by omega), ?_⟩
  refine Finset.sum_pos' (fun p _ => by rw [mul_one]; exact weight_pos _ _ _ _ _ _) ⟨a, Finset.mem_univ _, ?_⟩
  unfold weight
  rw [if_pos (.inr ⟨rfl, le_rfl⟩), mul_one]
  exact Real.exp_pos _

/-- An element of what a block of queries stores. -/
theorem stored_apply (h : Holds q k v z i K Q ks vs Z) (hi : i < 8) (a : Fin 256) (c : Fin 128) :
    stored K Q ks vs Z i (ix2 a c) = (attend q k v z i a.val c : EReal) := by
  obtain ⟨t, ht, hw⟩ := expo_apply h hi a
  have e : stored K Q ks vs Z i (ix2 a c)
      = Ideal.div (blend (scores K Q ks i) vs i (i + 1) (ix2 c a)) (∑ x : Fin 256, mass (scores K Q ks i) i i (ix2 x a)) *
        (Ideal.ofBits FTy.f32 1056964608#32 * Z (ix2 a c) * (1 + Ideal.tanh (Ideal.ofBits FTy.f32 1056964608#32 * Z (ix2 a c)))) := by
    unfold stored gated
    generalize blend (scores K Q ks i) vs i (i + 1) = B
    generalize mass (scores K Q ks i) i i = M
    pointwise
  have eb := blend_apply h (scores K Q ks i) a c (weight q k i a.val) (i + 1) (by omega) (fun m hm p => hw m (by omega) p)
  have em : ∀ p : Fin 256, mass (scores K Q ks i) i i (ix2 p a)
      = ((∑ m ∈ Finset.range (i + 1), weight q k i a.val m p.val * t : ℝ) : EReal) := fun p =>
    mass_apply (w := fun m => weight q k i a.val m p.val) (scores K Q ks i) (ix2 p a) i i fun m hm => hw m hm p
  have hn : ∑ m ∈ Finset.range (i + 1), ∑ p : Fin 256, v (256 * m + p.val) c * (weight q k i a.val m p.val * t)
      = total q k i a.val (fun j => v j c) * t := by
    unfold total
    rw [Finset.sum_mul]
    refine Finset.sum_congr rfl fun m _ => ?_
    rw [Finset.sum_mul]
    exact Finset.sum_congr rfl fun p _ => by ring
  have hd : ∑ p : Fin 256, ∑ m ∈ Finset.range (i + 1), weight q k i a.val m p.val * t = total q k i a.val (fun _ => 1) * t := by
    unfold total
    rw [Finset.sum_comm, Finset.sum_mul]
    refine Finset.sum_congr rfl fun m _ => ?_
    rw [Finset.sum_mul]
    exact Finset.sum_congr rfl fun p _ => by ring
  have hp := total_pos q k i a
  rw [e, eb]
  simp only [em]
  rw [← coe_sum, hn, hd, h.gate, Scalars.half_val, Ideal.div_coe (mul_ne_zero hp.ne' ht), ← EReal.coe_mul, ← EReal.coe_mul,
    Ideal.tanh_coe, show (1 : EReal) = ((1 : ℝ) : EReal) from rfl, ← EReal.coe_add, ← EReal.coe_mul, ← EReal.coe_mul, gated_real]
  refine congrArg _ ?_
  unfold attend
  congr 1
  field_simp

end Cert.Mixers
-- ==== Proof.Mixers.Value.lean ====
/- The array of the attention's result after the run: at every element the real attention of the projection's columns. -/
module

public import proofs.«01_k».proof.Proof.Mixers.Frame
public import proofs.«01_k».proof.Proof.Mixers.Stored

@[expose] public section

set_option maxRecDepth 16384

noncomputable section

namespace Cert.Mixers

open Cert.Kernel3Ideal Cert.Kernel3Ideal.Gen
open Idealize.ShloMosaic Idealize.ShloMosaic.TcCoe Idealize.ShloMosaic.Tactic Idealize.SL.Sem
open Idealize.ShloMosaic.Pipeline (Dat)

/-- The rows of sequence `b` in the 128 columns of head `h` that start at column `o`, as real numbers. -/
def slab (P : FVec Ideal S16384x12288 .bf16) (o b h j : ℕ) (d : Fin 128) : ℝ :=
  (P (ix2 (⟨(2048 * b + j) % 16384, by omega⟩ : Fin 16384) (⟨(o + 128 * h + d.val) % 12288, by omega⟩ : Fin 12288))).toReal

/-- Every entry of the attention's columns is a finite number. -/
def Finite (P : FVec Ideal S16384x12288 .bf16) : Prop :=
  ∀ (r : Fin 16384) (c : Fin 12288), 4096 ≤ c.val → c.val < 8192 → P (ix2 r c) ≠ ⊤ ∧ P (ix2 r c) ≠ ⊥

/-- The attention of every row of the projection. -/
def target (P : FVec Ideal S16384x12288 .bf16) : FVec Ideal S16384x1024 .bf16 := fun y =>
  (attend (slab P 4096 ((y 0).val / 2048) ((y 1).val / 128)) (slab P 5120 ((y 0).val / 2048) ((y 1).val / 128))
    (slab P 6144 ((y 0).val / 2048) ((y 1).val / 128)) (slab P 7168 ((y 0).val / 2048) ((y 1).val / 128))
    ((y 0).val % 2048 / 256) ((y 0).val % 256) ⟨(y 1).val % 128, by omega⟩ : EReal)

theorem slab_eq {P : FVec Ideal S16384x12288 .bf16} (hP : Finite P) (o b h j : ℕ) (d : Fin 128) (r : Fin 16384) (c : Fin 12288)
    (hr : r.val = 2048 * b + j) (hc : c.val = o + 128 * h + d.val)
    (ho : 4096 ≤ o := by omega) (hh : o + 128 * h + 127 < 8192 := by omega) : P (ix2 r c) = (slab P o b h j d : EReal) := by
  have e0 : r = ⟨(2048 * b + j) % 16384, by omega⟩ := Fin.ext (by show r.val = (2048 * b + j) % 16384; have := r.isLt; omega)
  have e1 : c = ⟨(o + 128 * h + d.val) % 12288, by omega⟩ := Fin.ext (by show c.val = (o + 128 * h + d.val) % 12288; have := c.isLt; omega)
  have f := hP r c (by omega) (by omega)
  unfold slab
  rw [← e0, ← e1, EReal.coe_toReal f.1 f.2]

theorem attention_apply {P : FVec Ideal S16384x12288 .bf16} (hP : Finite P) (b h : ℕ) (q k v z : FVec Ideal S2048x128 .bf16)
    (hq : ∀ (j : Fin 2048) d, q (ix2 j d) = (slab P 4096 b h j.val d : EReal))
    (hk : ∀ (j : Fin 2048) d, k (ix2 j d) = (slab P 5120 b h j.val d : EReal))
    (hv : ∀ (j : Fin 2048) d, v (ix2 j d) = (slab P 6144 b h j.val d : EReal))
    (hz : ∀ (j : Fin 2048) d, z (ix2 j d) = (slab P 7168 b h j.val d : EReal)) (r : Fin 2048) (c : Fin 128) :
    attention q k v z (ix2 r c)
      = (attend (slab P 4096 b h) (slab P 5120 b h) (slab P 6144 b h) (slab P 7168 b h) (r.val / 256) (r.val % 256) c : EReal) := by
  have hi : r.val / 256 < 8 := by omega
  refine stored_apply (a := ⟨r.val % 256, by omega⟩) ⟨hk, ?_, ?_, ?_, ?_⟩ hi _
  · intro a d
    have e : (r.val / 256) % 8 = r.val / 256 := Nat.mod_eq_of_lt hi
    refine (hq _ d).trans ?_
    show (slab P 4096 b h (256 * (r.val / 256 % 8) + a.val) d : EReal) = _
    rw [e]
  · intro n hn p d
    refine (hk _ d).trans ?_
    show (slab P 5120 b h (256 * (n % 8) + p.val) d : EReal) = _
    rw [Nat.mod_eq_of_lt hn]
  · intro n hn p d
    refine (hv _ d).trans ?_
    show (slab P 6144 b h (256 * (n % 8) + p.val) d : EReal) = _
    rw [Nat.mod_eq_of_lt hn]
  · intro a d
    have e : (r.val / 256) % 8 = r.val / 256 := Nat.mod_eq_of_lt hi
    refine (hz _ d).trans ?_
    show (slab P 7168 b h (256 * (r.val / 256 % 8) + a.val) d : EReal) = _
    rw [e]

variable (m : (ℓ : Loc nD τ sig) → Buf (Elt Ideal) ℓ)

/-- The projection. -/
abbrev proj (c : Dev nD) : FVec Ideal S16384x12288 .bf16 := m ((c : Thread nD τ).loc main_arg0)

/-- The sequence and the head of a point. -/
def seqOf (t : Fin cfg0.N) : ℕ := min t.val 63 / 8
def headOf (t : Fin cfg0.N) : ℕ := min t.val 63 % 8

theorem idx : ∀ t : Fin cfg0.N,
    win0_9.index t = ![seqOf t, 32 + headOf t] ∧ win0_10.index t = ![seqOf t, 40 + headOf t]
      ∧ win0_11.index t = ![seqOf t, 48 + headOf t] ∧ win0_12.index t = ![seqOf t, 56 + headOf t]
      ∧ win0_14.index t = ![seqOf t, headOf t] :=
  (by decide +kernel : ∀ t : Fin grid0.N, _)

theorem seqOf_lt (t : Fin cfg0.N) : seqOf t < 8 := by unfold seqOf; omega
theorem headOf_lt (t : Fin cfg0.N) : headOf t < 8 := by unfold headOf; omega

/-- Row `j` of a point's sequence, in the array. -/
def rowAt (t : Fin cfg0.N) (j : Fin 2048) : Fin 16384 := ⟨seqOf t * 2048 + j.val, by have := seqOf_lt t; omega⟩
/-- Column `d` of the block of columns that is `o` blocks to the right of a point's head. -/
def colAt (t : Fin cfg0.N) (o : ℕ) (ho : o ≤ 88) (d : Fin 128) : Fin 12288 :=
  ⟨(o + headOf t) * 128 + d.val, by have := headOf_lt t; omega⟩

theorem block_q (c : Dev nD) (t : Fin cfg0.N) (j : Fin 2048) (d : Fin 128) :
    (iblk m c 9 t : FVec Ideal S2048x128 .bf16) (ix2 j d) = proj m c (ix2 (rowAt t j) (colAt t 32 (by decide) d)) := by
  blk_ext [iblk, V, idx t, rowAt, colAt]

theorem block_k (c : Dev nD) (t : Fin cfg0.N) (j : Fin 2048) (d : Fin 128) :
    (iblk m c 10 t : FVec Ideal S2048x128 .bf16) (ix2 j d) = proj m c (ix2 (rowAt t j) (colAt t 40 (by decide) d)) := by
  blk_ext [iblk, V, idx t, rowAt, colAt]

theorem block_v (c : Dev nD) (t : Fin cfg0.N) (j : Fin 2048) (d : Fin 128) :
    (iblk m c 11 t : FVec Ideal S2048x128 .bf16) (ix2 j d) = proj m c (ix2 (rowAt t j) (colAt t 48 (by decide) d)) := by
  blk_ext [iblk, V, idx t, rowAt, colAt]

theorem block_z (c : Dev nD) (t : Fin cfg0.N) (j : Fin 2048) (d : Fin 128) :
    (iblk m c 12 t : FVec Ideal S2048x128 .bf16) (ix2 j d) = proj m c (ix2 (rowAt t j) (colAt t 56 (by decide) d)) := by
  blk_ext [iblk, V, idx t, rowAt, colAt]

theorem point14 (c : Dev nD) (hP : Finite (proj m c)) (t : Fin cfg0.N) (r : Fin 2048) (d : Fin 128) :
    attention (F := Ideal) (iblk m c 9 t) (iblk m c 10 t) (iblk m c 11 t) (iblk m c 12 t) (ix2 r d)
      = (attend (slab (proj m c) 4096 (seqOf t) (headOf t)) (slab (proj m c) 5120 (seqOf t) (headOf t))
          (slab (proj m c) 6144 (seqOf t) (headOf t)) (slab (proj m c) 7168 (seqOf t) (headOf t)) (r.val / 256) (r.val % 256) d : EReal) := by
  have l := headOf_lt t
  refine attention_apply hP (seqOf t) (headOf t) _ _ _ _ (fun j d => (block_q m c t j d).trans ?_)
    (fun j d => (block_k m c t j d).trans ?_) (fun j d => (block_v m c t j d).trans ?_) (fun j d => (block_z m c t j d).trans ?_) r d
  · exact slab_eq hP _ _ _ _ _ _ _ (by show seqOf t * 2048 + j.val = _; omega) (by show (32 + headOf t) * 128 + d.val = _; omega)
  · exact slab_eq hP _ _ _ _ _ _ _ (by show seqOf t * 2048 + j.val = _; omega) (by show (40 + headOf t) * 128 + d.val = _; omega)
  · exact slab_eq hP _ _ _ _ _ _ _ (by show seqOf t * 2048 + j.val = _; omega) (by show (48 + headOf t) * 128 + d.val = _; omega)
  · exact slab_eq hP _ _ _ _ _ _ _ (by show seqOf t * 2048 + j.val = _; omega) (by show (56 + headOf t) * 128 + d.val = _; omega)

theorem target_at (P : FVec Ideal S16384x12288 .bf16) (b h : ℕ) (r : Fin 2048) (d : Fin 128) (y : S16384x1024.Idx)
    (h0 : (y 0).val = b * 2048 + r.val) (h1 : (y 1).val = h * 128 + d.val) :
    (attend (slab P 4096 b h) (slab P 5120 b h) (slab P 6144 b h) (slab P 7168 b h) (r.val / 256) (r.val % 256) d : EReal) = target P y := by
  have e0 : (y 0).val / 2048 = b := by omega
  have e1 : (y 1).val / 128 = h := by omega
  have e2 : (y 0).val % 2048 / 256 = r.val / 256 := by omega
  have e3 : (y 0).val % 256 = r.val % 256 := by omega
  have e4 : (⟨(y 1).val % 128, by omega⟩ : Fin 128) = d := Fin.ext (by show (y 1).val % 128 = d.val; omega)
  unfold target
  rw [e0, e1, e2, e3, e4]

/-- The attention's result array after the run. -/
theorem final14 (c : Dev nD) (hP : Finite (proj m c)) : (dats m 0 c).arrAt 14 cfg0.N = target (proj m c) := by
  refine (dats m 0 c).arrAt_eq_of_covers 14 _ (by decide +kernel) fun t hf y => ?_
  blk_simp
  rw [left14]
  idx_vars y
  refine (point14 m c hP t y0 y1).trans (target_at _ _ _ _ _ _ ?_ ?_)
  · blk_simp
    rw [(idx t).2.2.2.2]
    rfl
  · blk_simp
    rw [(idx t).2.2.2.2]
    rfl

end Cert.Mixers
-- ==== Proof.Mixers.Ref.lean ====
/- The reference of the attention, read stage by stage: queries, keys, values, the mean keys, the masked gates. -/
module

public import proofs.«01_k».proof.Proof.Gen.Reference3Ideal.Read
public import proofs.«01_k».proof.Proof.Mixers.Value

@[expose] public section

set_option maxRecDepth 16384

noncomputable section

namespace Cert.Mixers.Ref

open Cert.Reference3Ideal Cert.Reference3Ideal.Gen Cert.Reference3Ideal.Read
open Idealize.ShloMosaic Idealize.ShloMosaic.TcCoe Idealize.ShloMosaic.Tactic

/-- The factor by which the reference undoes the scaling of the queries. -/
def scale : ℝ := Real.sqrt 128 * Real.log 2

theorem root_pos : 0 < Real.sqrt 128 := Real.sqrt_pos.mpr (by norm_num)
theorem scale_pos : 0 < scale := mul_pos root_pos (Real.log_pos (by norm_num))

theorem spread_val : Ideal.ofBits .f32 1132462080#32 = ((256 : ℝ) : EReal) := by
  simp [Ideal.ofBits, Ideal.ieee, -EReal.coe_mul]; norm_num

variable {P : FVec Ideal S16384x12288 .bf16} (hP : Finite P) (b h : Fin 8)
include hP

theorem query_apply (r : Fin 2048) (d : Fin 128) :
    val_main_v24 (F := Ideal) P (ix4 b h r d) = ((scale * slab P 4096 b h r d : ℝ) : EReal) := by
  have e : val_main_v24 (F := Ideal) P (ix4 b h r d)
      = P (ix2 (⟨b.val * 2048 + r.val, by omega⟩ : Fin 16384) (⟨4096 + (h.val * 128 + d.val), by omega⟩ : Fin 12288))
        * Ideal.sqrt (Ideal.ofBits .f32 1124073472#32) * Ideal.log (Ideal.ofBits .f32 1073741824#32) := by
    pointwise [val_main_v24, val_main_v8, val_main_v7, val_main_v6, val_main_v5, val_main_v4, val_main_v3, val_main_v2,
      val_main_v1, val_main_v0, val_main_cst, val_main_cst_0]
  rw [e, slab_eq hP 4096 b h r d _ _ (by show b.val * 2048 + r.val = 2048 * b.val + r.val; omega)
    (by show 4096 + (h.val * 128 + d.val) = 4096 + 128 * h.val + d.val; omega),
    Scalars.width_val, Scalars.two_val, Ideal.sqrt_coe, Ideal.log_coe,
    if_neg (by norm_num), if_neg (by norm_num), ← EReal.coe_mul, ← EReal.coe_mul]
  unfold scale
  congr 1; ring

theorem key_apply (n : Fin 8) (p : Fin 256) (d : Fin 128) :
    val_main_v18 (F := Ideal) P (ix5 b h n p d) = (slab P 5120 b h (256 * n.val + p.val) d : EReal) := by
  have e : val_main_v18 (F := Ideal) P (ix5 b h n p d)
      = P (ix2 (⟨b.val * 2048 + n.val * 256 + p.val, by omega⟩ : Fin 16384) (⟨5120 + (h.val * 128 + d.val), by omega⟩ : Fin 12288)) := by
    pointwise [val_main_v18, val_main_v17, val_main_v11, val_main_v10, val_main_v9]
  rw [e, slab_eq hP 5120 b h (256 * n.val + p.val) d _ _
    (by show b.val * 2048 + n.val * 256 + p.val = 2048 * b.val + (256 * n.val + p.val); omega)
    (by show 5120 + (h.val * 128 + d.val) = 5120 + 128 * h.val + d.val; omega)]

theorem value_apply (n : Fin 8) (p : Fin 256) (d : Fin 128) :
    val_main_v20 (F := Ideal) P (ix5 b h n p d) = (slab P 6144 b h (256 * n.val + p.val) d : EReal) := by
  have e : val_main_v20 (F := Ideal) P (ix5 b h n p d)
      = P (ix2 (⟨b.val * 2048 + n.val * 256 + p.val, by omega⟩ : Fin 16384) (⟨6144 + (h.val * 128 + d.val), by omega⟩ : Fin 12288)) := by
    pointwise [val_main_v20, val_main_v19, val_main_v14, val_main_v13, val_main_v12]
  rw [e, slab_eq hP 6144 b h (256 * n.val + p.val) d _ _
    (by show b.val * 2048 + n.val * 256 + p.val = 2048 * b.val + (256 * n.val + p.val); omega)
    (by show 6144 + (h.val * 128 + d.val) = 6144 + 128 * h.val + d.val; omega)]

theorem mean_apply (n : Fin 8) (d : Fin 128) :
    val_main_v23 (F := Ideal) P (ix4 b h n d) = (meanKey (slab P 5120 b h) n d : EReal) := by
  have e : val_main_v23 (F := Ideal) P (ix4 b h n d)
      = Ideal.div (∑ x, val_main_v18 (F := Ideal) P (ix5 b h n x d)) (Ideal.ofBits .f32 1132462080#32) := by
    unfold val_main_v23 val_main_v22 val_main_v21 val_main_cst_1 val_main_cst_2
    generalize val_main_v18 (F := Ideal) P = T
    pointwise
  rw [e, Finset.sum_congr rfl fun x _ => key_apply hP b h n x d, ← coe_sum, spread_val,
    Ideal.div_coe (show (256 : ℝ) ≠ 0 by norm_num), ← EReal.coe_mul]
  unfold meanKey
  rw [Finset.sum_mul]
  congr 1
  exact Finset.sum_congr rfl fun x _ => by ring

theorem gate_apply (r : Fin 2048) (n : Fin 8) :
    val_main_v25 (F := Ideal) P (ix4 b h r n) = ((scale * gateOf (slab P 4096 b h) (slab P 5120 b h) r n : ℝ) : EReal) := by
  have e : val_main_v25 (F := Ideal) P (ix4 b h r n)
      = ∑ x, val_main_v24 (F := Ideal) P (ix4 b h r x) * val_main_v23 (F := Ideal) P (ix4 b h n x) := by
    unfold val_main_v25
    generalize val_main_v23 (F := Ideal) P = T
    generalize val_main_v24 (F := Ideal) P = U
    pointwise
  rw [e, Finset.sum_congr rfl fun x _ => by rw [query_apply hP b h r x, mean_apply hP b h n x, ← EReal.coe_mul], ← coe_sum]
  unfold gateOf
  rw [Finset.mul_sum]
  congr 1
  exact Finset.sum_congr rfl fun x _ => by ring

omit hP in
/-- A query's block. -/
theorem block_apply (r : Fin 2048) : (val_main_v27 (F := Ideal)) (ix1 r) = BitVec.ofNat 32 (r.val / 256) := by
  pointwise [val_main_v27, val_main_v26, val_main_call0_v0, val_main_call0_v1, val_main_call0_v2, val_main_call0_v3,
    val_main_call0_v4, val_main_call0_v5, val_main_call0_v6, val_main_call0_v7, val_main_call0_v8, val_main_call0_v9,
    val_main_call0_v10, val_main_call0_v11, val_main_call0_v12, val_main_call0_v13, val_main_call0_c, val_main_call0_c_0,
    val_main_c, id]
  revert r
  decide +kernel

omit hP in
theorem past_word (n i : ℕ) (hn : n < 256) (hi : i < 256) :
    IntOp.cmpi .slt (BitVec.ofNat 32 n) (BitVec.ofNat 32 i) = BitVec.ofBool (decide (n < i)) := by
  have h : (BitVec.ofNat 32 n).slt (BitVec.ofNat 32 i) = decide (n < i) := by
    rw [BitVec.slt_eq_decide, BitVec.toInt_eq_toNat_of_lt (by rw [BitVec.toNat_ofNat]; omega),
      BitVec.toInt_eq_toNat_of_lt (by rw [BitVec.toNat_ofNat]; omega), BitVec.toNat_ofNat, BitVec.toNat_ofNat]
    congr 1
    rw [Nat.mod_eq_of_lt (by omega), Nat.mod_eq_of_lt (by omega)]
    simp
  rw [← h]; rfl

theorem masked_apply (r : Fin 2048) (n : Fin 8) :
    val_main_v34 (F := Ideal) P (ix4 b h r n)
      = if n.val < r.val / 256 then ((scale * gateOf (slab P 4096 b h) (slab P 5120 b h) r n : ℝ) : EReal) else ⊥ := by
  have e : val_main_v34 (F := Ideal) P (ix4 b h r n)
      = Scalar.select (IntOp.cmpi .slt (BitVec.ofNat 32 n.val) ((val_main_v27 (F := Ideal)) (ix1 r)))
          (val_main_v25 (F := Ideal) P (ix4 b h r n)) (Ideal.ofBits .f32 4286578688#32) := by
    unfold val_main_v34 val_main_call1_v1 val_main_call1_v2 val_main_call1_v0 val_main_cst_3 val_main_v33 val_main_v32
      val_main_v31 val_main_v30 val_main_v29 val_main_v28
    generalize val_main_v25 (F := Ideal) P = T
    generalize (val_main_v27 (F := Ideal)) = U
    rw [id_eq]
    pointwise
  rw [e, block_apply, past_word _ _ (by omega) (by omega), select_decide, gate_apply hP, lowest_val]

end Cert.Mixers.Ref
-- ==== Proof.Mixers.Pick.lean ====
/- The reference's choice of the blocks and the blocks that it gathers. -/
module

public import proofs.«01_k».proof.Proof.Mixers.Ref

@[expose] public section

set_option maxRecDepth 16384

noncomputable section

namespace Cert.Mixers.Ref

open Cert.Reference3Ideal Cert.Reference3Ideal.Gen Cert.Reference3Ideal.Read
open Idealize.ShloMosaic Idealize.ShloMosaic.TcCoe Idealize.ShloMosaic.Tactic

variable (P : FVec Ideal S16384x12288 .bf16) (b h : Fin 8)

/-- The masked gates of a query. -/
def gates' (r : Fin 2048) (n : Fin 8) : EReal := val_main_v34 (F := Ideal) P (ix4 b h r n)

/-- The block in slot `t` of a query. -/
def pick (r : Fin 2048) (t : Fin 3) : Fin 8 := source (gates' P b h r) (t.castLE (by omega))

theorem indices_apply (r : Fin 2048) (t : Fin 3) :
    val_main_indices (F := Ideal) P (ix4 b h r t) = BitVec.ofNat 32 (pick P b h r t).val := by
  unfold pick
  rw [← sortedFrom_eq (gates' P b h r)
    (fun k k' => FloatOps.cmpfTotal (F := Ideal) (φ := .f32) .gt (gates' P b h r k) (gates' P b h r k') == 1#1)
    (fun k k' => by
      show (BitVec.ofBool (decide (gates' P b h r k' < gates' P b h r k)) == 1#1) = _
      cases decide (gates' P b h r k' < gates' P b h r k) <;> rfl)]
  unfold val_main_indices gates'
  generalize val_main_v34 (F := Ideal) P = T
  unfold Host.topK Host.sort2
  have al : ∀ k : Fin 8, Shape.Idx.along (s := S8x8x2048x8) (ix4 b h r (t.castLE (by omega) : Fin 8)) 3 k = ix4 b h r k := by
    intro k; funext a
    match a with
    | ⟨0, _⟩ => rfl
    | ⟨1, _⟩ => rfl
    | ⟨2, _⟩ => rfl
    | ⟨3, _⟩ => rfl
  have cut : ∀ y : IVec S8x8x2048x8 32, extractStridedSlice S8x8x2048x3 (fun _ => 0) y sliceFits_S8x8x2048x8_S8x8x2048x3 (ix4 b h r t)
      = y (ix4 b h r (t.castLE (by omega) : Fin 8)) := by
    intro y
    unfold extractStridedSlice
    congr 1
    funext a
    match a with
    | ⟨0, _⟩ => exact Fin.ext (Nat.zero_add _)
    | ⟨1, _⟩ => exact Fin.ext (Nat.zero_add _)
    | ⟨2, _⟩ => exact Fin.ext (Nat.zero_add _)
    | ⟨3, _⟩ => exact Fin.ext (Nat.zero_add _)
  show extractStridedSlice S8x8x2048x3 (fun _ => 0) (fun j : S8x8x2048x8.Idx => BitVec.ofNat 32 (sortedFrom (fun k k' : Fin 8 =>
    FloatOps.cmpfTotal (F := Ideal) (φ := .f32) .gt (T (Shape.Idx.along (s := S8x8x2048x8) j 3 k))
      (T (Shape.Idx.along (s := S8x8x2048x8) j 3 k')) == 1#1) (j 3)).val) sliceFits_S8x8x2048x8_S8x8x2048x3 (ix4 b h r t) = _
  refine (cut _).trans ?_
  rw [show (fun k k' : Fin 8 => FloatOps.cmpfTotal (F := Ideal) (φ := .f32) .gt (T (ix4 b h r k)) (T (ix4 b h r k')) == 1#1)
    = fun k k' : Fin 8 => FloatOps.cmpfTotal (F := Ideal) (φ := .f32) .gt
        (T (Shape.Idx.along (s := S8x8x2048x8) (ix4 b h r (t.castLE (by omega) : Fin 8)) 3 k))
        (T (Shape.Idx.along (s := S8x8x2048x8) (ix4 b h r (t.castLE (by omega) : Fin 8)) 3 k')) == 1#1
    from funext fun k => funext fun k' => by rw [al k, al k']]
  rfl

theorem gather_word : ∀ n : Fin 8, min (BitVec.ofNat 32 n.val).toInt.toNat 7 = n.val := by decide

theorem gather_apply (x : FVec Ideal S8x8x8x256x128 .f32) (idx : IVec S8x8x2048x3x3 32) (r : Fin 2048) (t : Fin 3) (p : Fin 256) (d : Fin 128)
    (n : Fin 8) (h0 : idx (ix5 b h r t 0) = BitVec.ofNat 32 b.val) (h1 : idx (ix5 b h r t 1) = BitVec.ofNat 32 h.val)
    (h2 : idx (ix5 b h r t 2) = BitVec.ofNat 32 n.val) :
    Host.gather gather_S8x8x8x256x128_S8x8x2048x3x3_S8x8x2048x3x256x128_45_012_n_n_012_4_111256128 x idx (ix6 b h r t p d)
      = x (ix5 b h n p d) := by
  have hs : ∀ c : Fin 3, GatherDims.siIdx gather_S8x8x8x256x128_S8x8x2048x3x3_S8x8x2048x3x256x128_45_012_n_n_012_4_111256128
      (ix6 b h r t p d) c = ix5 b h r t c := by
    intro c; funext a; refine Fin.ext ?_
    match a with
    | ⟨0, _⟩ => rfl
    | ⟨1, _⟩ => rfl
    | ⟨2, _⟩ => rfl
    | ⟨3, _⟩ => rfl
    | ⟨4, _⟩ => rfl
  have st : ∀ (c : Fin 3) (k : Fin 8), idx (ix5 b h r t c) = BitVec.ofNat 32 k.val →
      min (idx (GatherDims.siIdx gather_S8x8x8x256x128_S8x8x2048x3x3_S8x8x2048x3x256x128_45_012_n_n_012_4_111256128
        (ix6 b h r t p d) c)).toInt.toNat 7 = k.val := by
    intro c k e
    rw [hs c, e]
    exact gather_word k
  unfold Host.gather
  congr 1
  funext a
  refine Fin.ext ?_
  show GatherDims.start _ (ix6 b h r t p d) idx a + GatherDims.batchCoord _ (ix6 b h r t p d) a + GatherDims.offCoord _ (ix6 b h r t p d) a = _
  rw [GatherDims.batchCoord_eq_zero _ _ _ List.not_mem_nil, Nat.add_zero]
  match a with
  | ⟨0, _⟩ =>
    rw [GatherDims.offCoord_eq_zero _ _ _ (by decide +revert), Nat.add_zero]
    unfold GatherDims.start
    rw [dif_pos (by decide +revert)]
    exact st 0 b h0
  | ⟨1, _⟩ =>
    rw [GatherDims.offCoord_eq_zero _ _ _ (by decide +revert), Nat.add_zero]
    unfold GatherDims.start
    rw [dif_pos (by decide +revert)]
    exact st 1 h h1
  | ⟨2, _⟩ =>
    rw [GatherDims.offCoord_eq_zero _ _ _ (by decide +revert), Nat.add_zero]
    unfold GatherDims.start
    rw [dif_pos (by decide +revert)]
    exact st 2 n h2
  | ⟨3, _⟩ =>
    unfold GatherDims.start
    rw [dif_neg (by decide +revert), Nat.zero_add]
    rfl
  | ⟨4, _⟩ =>
    unfold GatherDims.start
    rw [dif_neg (by decide +revert), Nat.zero_add]
    rfl

/-- A block's number is not negative, so it isn't wrapped. -/
theorem wrap_word : ∀ n : Fin 8, Scalar.select (IntOp.cmpi .slt (BitVec.ofNat 32 n.val) 0#32)
    (IntOp.addi (BitVec.ofNat 32 n.val) 8#32) (BitVec.ofNat 32 n.val) = BitVec.ofNat 32 n.val := by decide +kernel

theorem picked_keys (r : Fin 2048) (t : Fin 3) (p : Fin 256) (d : Fin 128) :
    val_main_v60 (F := Ideal) P (ix6 b h r t p d) = val_main_v18 (F := Ideal) P (ix5 b h (pick P b h r t) p d) := by
  unfold val_main_v60
  refine gather_apply b h _ _ r t p d _ ?_ ?_ ?_
  · rw [← wrap_word b]
    unfold val_main_v59 val_main_v56 val_main_v54 val_main_v43 val_main_v42 val_main_v41 val_main_v40 val_main_v39
      val_main_v36 val_main_v35 val_main_c_4 val_main_c_5
    pointwise
  · rw [← wrap_word h]
    unfold val_main_v59 val_main_v57 val_main_v55 val_main_v48 val_main_v47 val_main_v46 val_main_v45 val_main_v44
      val_main_v38 val_main_v37 val_main_c_6 val_main_c_7
    pointwise
  · rw [← wrap_word (pick P b h r t), ← indices_apply]
    unfold val_main_v59 val_main_v58 val_main_v53 val_main_v52 val_main_v51 val_main_v50 val_main_v49 val_main_c_8 val_main_c_9
    generalize val_main_indices (F := Ideal) P = U
    pointwise

theorem picked_values (r : Fin 2048) (t : Fin 3) (p : Fin 256) (d : Fin 128) :
    val_main_v82 (F := Ideal) P (ix6 b h r t p d) = val_main_v20 (F := Ideal) P (ix5 b h (pick P b h r t) p d) := by
  unfold val_main_v82
  refine gather_apply b h _ _ r t p d _ ?_ ?_ ?_
  · rw [← wrap_word b]
    unfold val_main_v81 val_main_v78 val_main_v76 val_main_v65 val_main_v64 val_main_v63 val_main_v62 val_main_v61
      val_main_v36 val_main_v35 val_main_c_10 val_main_c_11
    pointwise
  · rw [← wrap_word h]
    unfold val_main_v81 val_main_v79 val_main_v77 val_main_v70 val_main_v69 val_main_v68 val_main_v67 val_main_v66
      val_main_v38 val_main_v37 val_main_c_12 val_main_c_13
    pointwise
  · rw [← wrap_word (pick P b h r t), ← indices_apply]
    unfold val_main_v81 val_main_v80 val_main_v75 val_main_v74 val_main_v73 val_main_v72 val_main_v71 val_main_c_14 val_main_c_15
    generalize val_main_indices (F := Ideal) P = U
    pointwise

end Cert.Mixers.Ref
-- ==== Proof.Mixers.Soft.lean ====
/- The reference's scores, their mask and the softmax: a query's 1024 slots are the keys of three picked blocks and the
   keys of its own. -/
module

public import proofs.«01_k».proof.Proof.Mixers.Pick
public import Idealize.ShloMosaic.Lib.KernelVsHost

@[expose] public section

set_option maxRecDepth 16384

noncomputable section

namespace Cert.Mixers.Ref

open Cert.Reference3Ideal Cert.Reference3Ideal.Gen Cert.Reference3Ideal.Read
open Idealize.ShloMosaic Idealize.ShloMosaic.TcCoe Idealize.ShloMosaic.Tactic

theorem own_word (i j r : ℕ) (hi : i < 8) (hj : j < 256) (hr : r < 2048) :
    IntOp.cmpi .sle (IntOp.addi (IntOp.muli (BitVec.ofNat 32 i) 256#32) (BitVec.ofNat 32 j)) (BitVec.ofNat 32 r)
      = BitVec.ofBool (decide (256 * i + j ≤ r)) := by
  have e : IntOp.addi (IntOp.muli (BitVec.ofNat 32 i) 256#32) (BitVec.ofNat 32 j) = BitVec.ofNat 32 (256 * i + j) := by
    show BitVec.ofNat 32 i * BitVec.ofNat 32 256 + BitVec.ofNat 32 j = _
    rw [← BitVec.ofNat_mul, ← BitVec.ofNat_add, Nat.mul_comm i]
  have h : (BitVec.ofNat 32 (256 * i + j)).sle (BitVec.ofNat 32 r) = decide (256 * i + j ≤ r) := by
    rw [BitVec.sle_eq_decide, BitVec.toInt_eq_toNat_of_lt (by rw [BitVec.toNat_ofNat]; omega),
      BitVec.toInt_eq_toNat_of_lt (by rw [BitVec.toNat_ofNat]; omega), BitVec.toNat_ofNat, BitVec.toNat_ofNat]
    congr 1
    rw [Nat.mod_eq_of_lt (by omega), Nat.mod_eq_of_lt (by omega)]
    exact propext Int.ofNat_le
  rw [e, ← h]; rfl

/-- Whether a query attends to slot `j`. -/
def Shown (r j : ℕ) : Prop := if j < 768 then j / 256 < r / 256 else 256 * (r / 256) + (j - 768) ≤ r

instance (r j : ℕ) : Decidable (Shown r j) := by unfold Shown; infer_instance

theorem shown_apply (r : Fin 2048) (j : Fin 1024) :
    val_main_v109 (F := Ideal) (ix2 r j) = BitVec.ofBool (decide (Shown r.val j.val)) := by
  have e : val_main_v109 (F := Ideal) (ix2 r j)
      = if h : j.val < 768 then val_main_v96 (F := Ideal) (ix2 r (⟨j.val, h⟩ : Fin 768))
        else val_main_v108 (F := Ideal) (ix2 r (⟨j.val - 768, by omega⟩ : Fin 256)) := by
    unfold val_main_v109
    generalize val_main_v108 (F := Ideal) = T
    generalize val_main_v96 (F := Ideal) = U
    pointwise
  have e0 (k : Fin 768) : val_main_v96 (F := Ideal) (ix2 r k)
      = IntOp.cmpi .slt (BitVec.ofNat 32 (k.val / 256)) (val_main_v27 (F := Ideal) (ix1 r)) := by
    unfold val_main_v96 val_main_v95 val_main_v94 val_main_v93 val_main_v92 val_main_v91 val_main_v90 val_main_v89 val_main_v88
    generalize val_main_v27 (F := Ideal) = T
    pointwise
  have e1 (k : Fin 256) : val_main_v108 (F := Ideal) (ix2 r k)
      = IntOp.cmpi .sle (IntOp.addi (IntOp.muli (val_main_v27 (F := Ideal) (ix1 r)) 256#32) (BitVec.ofNat 32 k.val)) (BitVec.ofNat 32 r.val) := by
    unfold val_main_v108 val_main_v107 val_main_v106 val_main_v105 val_main_v104 val_main_v103 val_main_v102 val_main_v101
      val_main_v100 val_main_v99 val_main_v98 val_main_v97 val_main_c_16
    generalize val_main_v27 (F := Ideal) = T
    pointwise
  rw [e]
  by_cases hj : j.val < 768
  · rw [dif_pos hj, e0, block_apply, past_word _ _ (by show j.val / 256 < 256; omega) (by omega)]
    congr 1
    exact decide_eq_decide.mpr (by unfold Shown; rw [if_pos hj])
  · rw [dif_neg hj, e1, block_apply, own_word _ _ _ (by omega) (by show j.val - 768 < 256; omega) r.isLt]
    congr 1
    exact decide_eq_decide.mpr (by unfold Shown; rw [if_neg hj])

variable (P : FVec Ideal S16384x12288 .bf16) (b h : Fin 8) (r : Fin 2048)

/-- The key in slot `j` of a query. -/
def place (j : ℕ) : ℕ :=
  if j < 768 then 256 * (pick P b h r ⟨j / 256 % 3, by omega⟩).val + j % 256 else 256 * (r.val / 256) + (j - 768)

/-- The score of slot `j`. -/
def scoreAt (j : ℕ) : ℝ := match' (slab P 4096 b h) (slab P 5120 b h) r (place P b h r j)

/-- The weight of slot `j`. -/
def weightAt (j : ℕ) : ℝ := if Shown r.val j then Real.exp (Real.log 2 * scoreAt P b h r j) else 0

/-- The sum of the weights. -/
def sumAt : ℝ := ∑ j : Fin 1024, weightAt P b h r j.val

theorem weightAt_nonneg (j : ℕ) : 0 ≤ weightAt P b h r j := by
  unfold weightAt; split
  · exact (Real.exp_pos _).le
  · exact le_rfl

theorem shown_self : Shown r.val (768 + r.val % 256) := by
  unfold Shown
  rw [if_neg (by omega)]; omega

theorem sumAt_pos : 0 < sumAt P b h r := by
  refine Finset.sum_pos' (fun j _ => weightAt_nonneg P b h r j.val)
    ⟨(⟨768 + r.val % 256, by omega⟩ : Fin 1024), Finset.mem_univ _, ?_⟩
  show 0 < weightAt P b h r (768 + r.val % 256)
  unfold weightAt
  rw [if_pos (shown_self r)]
  exact Real.exp_pos _

variable {P} (hP : Finite P)
include hP

theorem dot_apply (j : ℕ) (K : Fin 128 → EReal) (hK : ∀ d, K d = (slab P 5120 b h j d : EReal)) :
    ∑ d, val_main_v24 (F := Ideal) P (ix4 b h r d) * K d
      = ((scale * match' (slab P 4096 b h) (slab P 5120 b h) r j : ℝ) : EReal) := by
  rw [Finset.sum_congr rfl fun x _ => by rw [query_apply hP b h r x, hK, ← EReal.coe_mul], ← coe_sum]
  unfold match'
  rw [Finset.mul_sum]
  congr 1
  exact Finset.sum_congr rfl fun x _ => by ring

theorem past_apply (j : Fin 768) : val_main_v84 (F := Ideal) P (ix4 b h r j) = ((scale * scoreAt P b h r j.val : ℝ) : EReal) := by
  have e : val_main_v84 (F := Ideal) P (ix4 b h r j) = ∑ x, val_main_v24 (F := Ideal) P (ix4 b h r x)
      * val_main_v60 (F := Ideal) P (ix6 b h r (⟨j.val / 256, by omega⟩ : Fin 3) (⟨j.val % 256, by omega⟩ : Fin 256) x) := by
    unfold val_main_v84 val_main_v83
    generalize val_main_v24 (F := Ideal) P = T
    generalize val_main_v60 (F := Ideal) P = U
    pointwise
  rw [e, dot_apply b h r hP (place P b h r j.val) _ fun d => ?_]
  · rfl
  · rw [picked_keys, key_apply hP]
    unfold place
    rw [if_pos j.isLt]
    have t : (⟨j.val / 256 % 3, by omega⟩ : Fin 3) = ⟨j.val / 256, by omega⟩ := Fin.ext (by show j.val / 256 % 3 = j.val / 256; omega)
    rw [t]

theorem own_apply (j : Fin 256) : val_main_v87 (F := Ideal) P (ix4 b h r j) = ((scale * scoreAt P b h r (768 + j.val) : ℝ) : EReal) := by
  have e : val_main_v87 (F := Ideal) P (ix4 b h r j) = ∑ x, val_main_v24 (F := Ideal) P (ix4 b h r x)
      * val_main_v18 (F := Ideal) P (ix5 b h (⟨r.val / 256, by omega⟩ : Fin 8) j x) := by
    unfold val_main_v87 val_main_v86 val_main_v85
    generalize val_main_v24 (F := Ideal) P = T
    generalize val_main_v18 (F := Ideal) P = U
    pointwise
  rw [e, dot_apply b h r hP (place P b h r (768 + j.val)) _ fun d => ?_]
  · rfl
  · rw [key_apply hP]
    unfold place
    rw [if_neg (by omega), Nat.add_sub_cancel_left]

theorem score_apply (j : Fin 1024) : val_main_v114 (F := Ideal) P (ix4 b h r j)
    = if Shown r.val j.val then ((Real.log 2 * scoreAt P b h r j.val : ℝ) : EReal) else ⊥ := by
  have e : val_main_v114 (F := Ideal) P (ix4 b h r j)
      = Scalar.select (val_main_v109 (F := Ideal) (ix2 r j))
        (Ideal.div (if hj : j.val < 768 then val_main_v84 (F := Ideal) P (ix4 b h r (⟨j.val, hj⟩ : Fin 768))
            else val_main_v87 (F := Ideal) P (ix4 b h r (⟨j.val - 768, by omega⟩ : Fin 256)))
          (Ideal.sqrt (Ideal.ofBits .f32 1124073472#32)))
        (Ideal.ofBits .f32 4286578688#32) := by
    unfold val_main_v114 val_main_call2_v1 val_main_call2_v2 val_main_call2_v0 val_main_cst_18 val_main_v113 val_main_v112
      val_main_v111 val_main_cst_17 val_main_v110
    generalize val_main_v109 (F := Ideal) = T
    generalize val_main_v87 (F := Ideal) P = U
    generalize val_main_v84 (F := Ideal) P = V
    rw [id_eq]
    pointwise
  have s : (if hj : j.val < 768 then val_main_v84 (F := Ideal) P (ix4 b h r (⟨j.val, hj⟩ : Fin 768))
            else val_main_v87 (F := Ideal) P (ix4 b h r (⟨j.val - 768, by omega⟩ : Fin 256)))
      = ((scale * scoreAt P b h r j.val : ℝ) : EReal) := by
    by_cases hj : j.val < 768
    · rw [dif_pos hj, past_apply b h r hP]
    · rw [dif_neg hj, own_apply b h r hP]
      show ((scale * scoreAt P b h r (768 + (j.val - 768)) : ℝ) : EReal) = _
      rw [Nat.add_sub_of_le (not_lt.mp hj)]
  rw [e, s, shown_apply, select_decide, lowest_val, Scalars.width_val, Ideal.sqrt_coe,
    if_neg (show ¬(128 : ℝ) < 0 by norm_num), Ideal.div_coe root_pos.ne',
    ← EReal.coe_mul]
  have c : scale * scoreAt P b h r j.val * (1 / Real.sqrt 128) = Real.log 2 * scoreAt P b h r j.val := by
    unfold scale
    have := root_pos.ne'
    field_simp
  rw [c]

theorem peak_real : ∃ M : ℝ, val_main_v117 (F := Ideal) P (ix3 b h r) = (M : EReal) := by
  have e : val_main_v117 (F := Ideal) P (ix3 b h r)
      = max ⊥ (Finset.fold max ⊥ (fun x : Fin 1024 => val_main_v114 (F := Ideal) P (ix4 b h r x)) Finset.univ) := by
    rw [← lowest_val, val_main_v117_apply]
    unfold val_main_v115 val_main_cst_19
    generalize val_main_v114 (F := Ideal) P = V
    have red : S8x8x2048x1024.Reduces [3] S8x8x2048 := by decide
    have e' := hostReduce_maximumf_eq_multiReduction (F := Ideal) (φ := .f32) (s := S8x8x2048x1024) (t := S8x8x2048) V 4286578688#32
      reducesTo_S8x8x2048x1024_S8x8x2048_d3 h_S_ red (.inl rfl) rfl
    refine congrArg₂ max (by pointwise [val_main_v116, val_main_cst_20]) ((congrFun e' _).trans ?_)
    refine (Ideal.multiReduction_maximumf_single (s := S8x8x2048x1024) (t := S8x8x2048) (a := (3 : Fin 4)) (φ := .f32) V 4286578688#32
      red (.inl rfl) rfl (ix3 b h r)).trans ?_
    refine congrArg (fun g => Finset.fold max _ g Finset.univ) (funext fun x => congrArg V ?_)
    funext a
    match a with
    | ⟨0, _⟩ => rfl
    | ⟨1, _⟩ => rfl
    | ⟨2, _⟩ => rfl
    | ⟨3, _⟩ => rfl
  rw [e, max_eq_right bot_le]
  have t : Finset.fold max ⊥ (fun x : Fin 1024 => val_main_v114 (F := Ideal) P (ix4 b h r x)) Finset.univ < ⊤ := by
    rw [Finset.fold_max_lt]
    exact ⟨bot_lt_top, fun j _ => by rw [score_apply b h r hP]; split; exacts [EReal.coe_lt_top _, bot_lt_top]⟩
  have l : ⊥ < Finset.fold max ⊥ (fun x : Fin 1024 => val_main_v114 (F := Ideal) P (ix4 b h r x)) Finset.univ := by
    rw [Finset.lt_fold_max]
    refine .inr ⟨⟨768 + r.val % 256, by omega⟩, Finset.mem_univ _, ?_⟩
    rw [score_apply b h r hP, if_pos (shown_self r)]
    exact EReal.bot_lt_coe _
  exact ⟨_, (EReal.coe_toReal t.ne l.ne').symm⟩

theorem soft_apply (j : Fin 1024) : val_main_v125 (F := Ideal) P (ix4 b h r j)
    = ((weightAt P b h r j.val * (sumAt P b h r)⁻¹ : ℝ) : EReal) := by
  obtain ⟨M, hM⟩ := peak_real b h r hP
  have w (k : Fin 1024) : val_main_v121 (F := Ideal) P (ix4 b h r k) = ((weightAt P b h r k.val * Real.exp (-M) : ℝ) : EReal) := by
    have e : val_main_v121 (F := Ideal) P (ix4 b h r k)
        = Ideal.exp (val_main_v114 (F := Ideal) P (ix4 b h r k) - val_main_v117 (F := Ideal) P (ix3 b h r)) := by
      unfold val_main_v121 val_main_v120 val_main_v119 val_main_v118
      generalize val_main_v114 (F := Ideal) P = V
      generalize val_main_v117 (F := Ideal) P = U
      pointwise
    rw [e, hM, score_apply b h r hP]
    unfold weightAt
    by_cases hs : Shown r.val k.val
    · rw [if_pos hs, if_pos hs, ← EReal.coe_sub, Ideal.exp_coe, ← Real.exp_add, sub_eq_add_neg]
    · rw [if_neg hs, if_neg hs, EReal.bot_sub, Ideal.exp_bot, zero_mul, EReal.coe_zero]
  have e : val_main_v125 (F := Ideal) P (ix4 b h r j)
      = Ideal.div (val_main_v121 (F := Ideal) P (ix4 b h r j)) (∑ x, val_main_v121 (F := Ideal) P (ix4 b h r x)) := by
    unfold val_main_v125 val_main_v124 val_main_v123 val_main_v122 val_main_cst_21
    generalize val_main_v121 (F := Ideal) P = V
    pointwise
  have s : ∑ k : Fin 1024, weightAt P b h r k.val * Real.exp (-M) = sumAt P b h r * Real.exp (-M) := by
    unfold sumAt; rw [Finset.sum_mul]
  have p : sumAt P b h r * Real.exp (-M) ≠ 0 := (mul_pos (sumAt_pos P b h r) (Real.exp_pos _)).ne'
  rw [e, w, Finset.sum_congr rfl fun x _ => w x, ← coe_sum, s, Ideal.div_coe p, ← EReal.coe_mul]
  have x : weightAt P b h r j.val * Real.exp (-M) * (1 / (sumAt P b h r * Real.exp (-M))) = weightAt P b h r j.val * (sumAt P b h r)⁻¹ := by
    have := (sumAt_pos P b h r).ne'
    have := (Real.exp_pos (-M)).ne'
    field_simp
  rw [x]

end Cert.Mixers.Ref
-- ==== Proof.Mixers.Whole.lean ====
/- The reference's weighted values, gathered block by block, are the attention's sums; so the reference computes the attention. -/
module

public import proofs.«01_k».proof.Proof.Mixers.Soft

@[expose] public section

set_option maxRecDepth 16384

noncomputable section

namespace Cert.Mixers.Ref

open Cert.Reference3Ideal Cert.Reference3Ideal.Gen Cert.Reference3Ideal.Read
open Idealize.ShloMosaic Idealize.ShloMosaic.TcCoe Idealize.ShloMosaic.Tactic

/-- A sum over the slots is a sum over three blocks and a fourth. -/
theorem sum_slots (f : ℕ → ℝ) :
    ∑ j : Fin 1024, f j.val = ∑ t : Fin 3, ∑ p : Fin 256, f (256 * t.val + p.val) + ∑ p : Fin 256, f (768 + p.val) := by
  have e : ∑ j : Fin 1024, f j.val = ∑ t : Fin 4, ∑ p : Fin 256, f (256 * t.val + p.val) := by
    rw [← Fintype.sum_prod_type' (f := fun (t : Fin 4) (p : Fin 256) => f (256 * t.val + p.val))]
    refine (Fintype.sum_equiv (finProdFinEquiv (m := 4) (n := 256)) _ (fun j : Fin 1024 => f j.val) fun x => ?_).symm
    congr 1
    exact (Nat.add_comm _ _)
  rw [e, Fin.sum_univ_castSucc]
  rfl

variable {P : FVec Ideal S16384x12288 .bf16} (hP : Finite P) (b h : Fin 8) (r : Fin 2048)
include hP

/-- The weighted sum over the slots is the attention's sum over the keys. -/
theorem total_slots (f : ℕ → ℝ) :
    ∑ t : Fin 3, ∑ p : Fin 256, weightAt P b h r (256 * t.val + p.val) * f (place P b h r (256 * t.val + p.val))
      + ∑ p : Fin 256, weightAt P b h r (768 + p.val) * f (place P b h r (768 + p.val))
    = total (slab P 4096 b h) (slab P 5120 b h) (r.val / 256) (r.val % 256) f := by
  classical
  have hr : 256 * (r.val / 256) + r.val % 256 = r.val := by omega
  unfold total
  rw [Finset.sum_range_succ]
  congr 1
  · have s := sum_chosen (key := gates' P b h r) (g := gateOf (slab P 4096 b h) (slab P 5120 b h) r.val) (i := r.val / 256) (c := scale)
      (by omega) scale_pos (fun n => masked_apply hP b h r n)
      (fun n => ∑ p : Fin 256, Real.exp (Real.log 2 * match' (slab P 4096 b h) (slab P 5120 b h) r.val (256 * n + p.val)) * f (256 * n + p.val))
    refine Eq.trans ?_ (s.symm.trans ?_)
    · refine Finset.sum_congr rfl fun t _ => ?_
      have ht (p : Fin 256) : (256 * t.val + p.val) / 256 = t.val := by omega
      have hm (p : Fin 256) : (256 * t.val + p.val) % 256 = p.val := by omega
      have hl (p : Fin 256) : 256 * t.val + p.val < 768 := by omega
      have pl (p : Fin 256) : place P b h r (256 * t.val + p.val) = 256 * (source (gates' P b h r) (t.castLE (by decide))).val + p.val := by
        unfold place
        rw [if_pos (hl p), hm p]
        have q : (⟨(256 * t.val + p.val) / 256 % 3, by omega⟩ : Fin 3) = t := Fin.ext (by show (256 * t.val + p.val) / 256 % 3 = t.val; omega)
        rw [q]
        rfl
      by_cases hi : t.val < r.val / 256
      · rw [if_pos hi]
        refine Finset.sum_congr rfl fun p _ => ?_
        unfold weightAt scoreAt
        rw [if_pos (by unfold Shown; rw [if_pos (hl p), ht p]; exact hi), pl p]
      · rw [if_neg hi]
        refine Finset.sum_eq_zero fun p _ => ?_
        unfold weightAt
        rw [if_neg (by unfold Shown; rw [if_pos (hl p), ht p]; exact hi), zero_mul]
    · refine Finset.sum_congr rfl fun n hn => ?_
      have hn := Finset.mem_range.mp hn
      by_cases hc : Chosen (gateOf (slab P 4096 b h) (slab P 5120 b h) r.val) (r.val / 256) n
      · rw [if_pos hc]
        refine Finset.sum_congr rfl fun p _ => ?_
        unfold weight
        rw [if_pos (.inl ⟨hn, by rw [hr]; exact hc⟩), hr]
      · rw [if_neg hc]
        refine (Finset.sum_eq_zero fun p _ => ?_).symm
        unfold weight
        rw [if_neg ?_, zero_mul]
        rintro (⟨_, x⟩ | ⟨x, _⟩)
        · rw [hr] at x; exact hc x
        · omega
  · refine Finset.sum_congr rfl fun p _ => ?_
    have pl : place P b h r (768 + p.val) = 256 * (r.val / 256) + p.val := by
      unfold place
      rw [if_neg (by omega), Nat.add_sub_cancel_left]
    unfold weightAt scoreAt weight
    rw [pl, hr]
    by_cases hp : p.val ≤ r.val % 256
    · rw [if_pos (by unfold Shown; rw [if_neg (by omega)]; omega), if_pos (.inr ⟨rfl, hp⟩)]
    · rw [if_neg (by unfold Shown; rw [if_neg (by omega)]; omega), if_neg (by rintro (⟨x, _⟩ | ⟨_, x⟩) <;> omega)]

theorem sum_total : sumAt P b h r = total (slab P 4096 b h) (slab P 5120 b h) (r.val / 256) (r.val % 256) (fun _ => 1) := by
  rw [← total_slots hP b h r fun _ => 1]
  unfold sumAt
  rw [sum_slots (weightAt P b h r)]
  simp only [mul_one]

theorem blend_at (d : Fin 128) : val_main_v133 (F := Ideal) P (ix4 b h r d)
    = ((total (slab P 4096 b h) (slab P 5120 b h) (r.val / 256) (r.val % 256) (fun j => slab P 6144 b h j d)
        / total (slab P 4096 b h) (slab P 5120 b h) (r.val / 256) (r.val % 256) (fun _ => 1) : ℝ) : EReal) := by
  have e0 : val_main_v130 (F := Ideal) P (ix4 b h r d)
      = ∑ t : Fin 3, ∑ p : Fin 256, val_main_v127 (F := Ideal) P (ix5 b h r t p) * val_main_v82 (F := Ideal) P (ix6 b h r t p d) := by
    unfold val_main_v130
    generalize val_main_v127 (F := Ideal) P = V
    generalize val_main_v82 (F := Ideal) P = U
    pointwise
  have e1 (t : Fin 3) (p : Fin 256) : val_main_v127 (F := Ideal) P (ix5 b h r t p)
      = val_main_v125 (F := Ideal) P (ix4 b h r (⟨t.val * 256 + p.val, by omega⟩ : Fin 1024)) := by
    unfold val_main_v127 val_main_v126
    generalize val_main_v125 (F := Ideal) P = V
    pointwise
  have e2 : val_main_v132 (F := Ideal) P (ix4 b h r d)
      = val_main_v131 (F := Ideal) P (ix5 b h (⟨r.val / 256, by omega⟩ : Fin 8) (⟨r.val % 256, by omega⟩ : Fin 256) d) := by
    unfold val_main_v132
    generalize val_main_v131 (F := Ideal) P = V
    pointwise
  have e3 (n : Fin 8) (a : Fin 256) : val_main_v131 (F := Ideal) P (ix5 b h n a d)
      = ∑ p : Fin 256, val_main_v129 (F := Ideal) P (ix5 b h n a p) * val_main_v20 (F := Ideal) P (ix5 b h n p d) := by
    unfold val_main_v131
    generalize val_main_v129 (F := Ideal) P = V
    generalize val_main_v20 (F := Ideal) P = U
    pointwise
  have e4 (n : Fin 8) (a p : Fin 256) : val_main_v129 (F := Ideal) P (ix5 b h n a p)
      = val_main_v125 (F := Ideal) P (ix4 b h (⟨n.val * 256 + a.val, by omega⟩ : Fin 2048) (⟨768 + p.val, by omega⟩ : Fin 1024)) := by
    unfold val_main_v129 val_main_v128
    generalize val_main_v125 (F := Ideal) P = V
    pointwise
  have er : (⟨r.val / 256 * 256 + r.val % 256, by omega⟩ : Fin 2048) = r :=
    Fin.ext (by show r.val / 256 * 256 + r.val % 256 = r.val; omega)
  have past : val_main_v130 (F := Ideal) P (ix4 b h r d)
      = ((∑ t : Fin 3, ∑ p : Fin 256, weightAt P b h r (256 * t.val + p.val)
          * slab P 6144 b h (place P b h r (256 * t.val + p.val)) d * (sumAt P b h r)⁻¹ : ℝ) : EReal) := by
    rw [e0, coe_sum]
    refine Finset.sum_congr rfl fun t _ => ?_
    rw [coe_sum]
    refine Finset.sum_congr rfl fun p _ => ?_
    rw [e1, soft_apply b h r hP, picked_values, value_apply hP, ← EReal.coe_mul]
    have pl : place P b h r (256 * t.val + p.val) = 256 * (pick P b h r t).val + p.val := by
      unfold place
      rw [if_pos (by omega)]
      have q : (⟨(256 * t.val + p.val) / 256 % 3, by omega⟩ : Fin 3) = t := Fin.ext (by show (256 * t.val + p.val) / 256 % 3 = t.val; omega)
      rw [q]
      omega
    rw [pl]
    show ((weightAt P b h r (t.val * 256 + p.val) * (sumAt P b h r)⁻¹ * slab P 6144 b h (256 * (pick P b h r t).val + p.val) d : ℝ) : EReal) = _
    rw [Nat.mul_comm t.val 256]
    have x (u v w : ℝ) : u * v * w = u * w * v := by ring
    rw [x]
  have own : val_main_v132 (F := Ideal) P (ix4 b h r d)
      = ((∑ p : Fin 256, weightAt P b h r (768 + p.val)
          * slab P 6144 b h (place P b h r (768 + p.val)) d * (sumAt P b h r)⁻¹ : ℝ) : EReal) := by
    rw [e2, e3, coe_sum]
    refine Finset.sum_congr rfl fun p _ => ?_
    have pl : place P b h r (768 + p.val) = 256 * (r.val / 256) + p.val := by
      unfold place
      rw [if_neg (by omega), Nat.add_sub_cancel_left]
    rw [e4, er, soft_apply b h r hP, value_apply hP, pl, ← EReal.coe_mul]
    show ((weightAt P b h r (768 + p.val) * (sumAt P b h r)⁻¹ * slab P 6144 b h (256 * (r.val / 256) + p.val) d : ℝ) : EReal) = _
    have x (u v w : ℝ) : u * v * w = u * w * v := by ring
    rw [x]
  rw [val_main_v133_apply, past, own]
  refine (EReal.coe_add _ _).symm.trans (congrArg Real.toEReal ?_)
  simp only [← Finset.sum_mul]
  rw [← add_mul, total_slots hP b h r fun j => slab P 6144 b h j d, sum_total hP b h r, div_eq_mul_inv]

omit b h r

theorem gated_at (R : Fin 16384) (C : Fin 1024) : val_main_v136 (F := Ideal) P (ix2 R C)
    = ((slab P 7168 (R.val / 2048 : ℕ) (C.val / 128 : ℕ) (R.val % 2048) ⟨C.val % 128, by omega⟩
        * (1 + Real.exp (-slab P 7168 (R.val / 2048 : ℕ) (C.val / 128 : ℕ) (R.val % 2048) ⟨C.val % 128, by omega⟩))⁻¹ : ℝ) : EReal) := by
  have e : val_main_v136 (F := Ideal) P (ix2 R C)
      = P (ix2 R (⟨7168 + C.val, by omega⟩ : Fin 12288))
        * Ideal.div 1 (1 + Ideal.exp (-P (ix2 R (⟨7168 + C.val, by omega⟩ : Fin 12288)))) := by
    unfold val_main_v136 val_main_call3_v5 val_main_call3_v4 val_main_call3_v3 val_main_call3_v2 val_main_call3_v1 val_main_call3_v0
      val_main_call3_cst val_main_call3_cst_0 val_main_v16 val_main_v15
    pointwise
  have s := slab_eq hP 7168 (R.val / 2048) (C.val / 128) (R.val % 2048) ⟨C.val % 128, by omega⟩ R (⟨7168 + C.val, by omega⟩ : Fin 12288)
    (by omega) (by show 7168 + C.val = 7168 + 128 * (C.val / 128) + C.val % 128; omega)
  rw [e, s]
  generalize slab P 7168 (R.val / 2048) (C.val / 128) (R.val % 2048) ⟨C.val % 128, by omega⟩ = z
  have p : (1 : ℝ) + Real.exp (-z) ≠ 0 := by positivity
  rw [← EReal.coe_neg, Ideal.exp_coe, ← EReal.coe_one, ← EReal.coe_add, Ideal.div_coe p, ← EReal.coe_mul, ← EReal.coe_mul, one_mul, one_div]

theorem reference_at (R : Fin 16384) (C : Fin 1024) : val_main_v138 (F := Ideal) P (ix2 R C) = target P (ix2 R C) := by
  have e : val_main_v135 (F := Ideal) P (ix2 R C)
      = val_main_v133 (F := Ideal) P (ix4 (⟨R.val / 2048, by omega⟩ : Fin 8) (⟨C.val / 128, by omega⟩ : Fin 8)
          (⟨R.val % 2048, by omega⟩ : Fin 2048) (⟨C.val % 128, by omega⟩ : Fin 128)) := by
    unfold val_main_v135 val_main_v134
    generalize val_main_v133 (F := Ideal) P = V
    pointwise
  rw [val_main_v138_apply, val_main_v137_apply, e, blend_at hP, gated_at hP]
  refine (EReal.coe_mul _ _).symm.trans ?_
  have q : 256 * (R.val % 2048 / 256) + R.val % 2048 % 256 = R.val % 2048 := by omega
  unfold target attend
  refine congrArg Real.toEReal ?_
  show _ = total (slab P 4096 (R.val / 2048) (C.val / 128)) (slab P 5120 (R.val / 2048) (C.val / 128)) (R.val % 2048 / 256)
    (R.val % 256) (fun j => slab P 6144 (R.val / 2048) (C.val / 128) j ⟨C.val % 128, by omega⟩)
    / total (slab P 4096 (R.val / 2048) (C.val / 128)) (slab P 5120 (R.val / 2048) (C.val / 128)) (R.val % 2048 / 256)
    (R.val % 256) (fun _ => 1)
    * (slab P 7168 (R.val / 2048) (C.val / 128) (256 * (R.val % 2048 / 256) + R.val % 256) ⟨C.val % 128, by omega⟩
      * (1 + Real.exp (-slab P 7168 (R.val / 2048) (C.val / 128) (256 * (R.val % 2048 / 256) + R.val % 256) ⟨C.val % 128, by omega⟩))⁻¹)
  have q' : R.val % 256 = R.val % 2048 % 256 := by omega
  rw [q', q]

/-- The reference computes the attention. -/
theorem reference_eq : val_main_v138 (F := Ideal) P = target P := by
  funext y
  rw [eq_ix2 y]
  exact reference_at hP (y 0) (y 1)

end Cert.Mixers.Ref
-- ==== Proof.Mixers.Claims.lean ====
/- The claims about the mixers' call. -/
module

public import proofs.«01_k».proof.Defs
public import proofs.«01_k».proof.Proof.Gen.Pre_finite
public import proofs.«01_k».proof.Proof.Gen.Reference3Ideal.Run
public import proofs.«01_k».proof.Proof.Gen.Reference3Ideal.Read
public import proofs.«01_k».proof.Proof.MixersP.Frame
public import proofs.«01_k».proof.Proof.Mixers.Whole
public import Idealize.ShloMosaic.Lib.Quiescent

@[expose] public section

noncomputable section

namespace Cert.Mixers

open Idealize.ShloMosaic Idealize.ShloMosaic.TcCoe Idealize.SL.Sem

theorem frame_kernel : Cert.quiescent_Kernel3 := fun m ρ _ => Cert.MixersP.quiescent m ρ

theorem frame_ideal : Cert.quiescent_Kernel3Ideal := fun m ρ _ => quiescent m ρ

theorem frame_ideal_finite : Cert.quiescent_Kernel3Ideal_pre_finite := fun m ρ _ => quiescent m ρ

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_reference_finite : Cert.quiescent_Reference3Ideal_pre_finite := fun m ρ _ =>
  frame_reference m ρ trivial

theorem preserves : Cert.preserves_Kernel3_Kernel3Ideal :=
  IdealRules.named_const.statement Cert.Kernel3Ideal.κ "mask" .f32 0xF149F2CA#32 ⊥ rfl

/-- The constant that the precondition compares with is infinity. -/
theorem highest_val : Ideal.ofBits .f32 2139095040#32 = ⊤ := by
  simp [Ideal.ofBits]
  decide +kernel

section

variable {P : FVec Ideal Cert.Pre_finite.S16384x12288 .bf16} {A : FVec Ideal Cert.Pre_finite.S1x4x3072 .f32}
  {B : FVec Ideal Cert.Pre_finite.S16384x128 .f32} {D : FVec Ideal Cert.Pre_finite.S1x128 .f32}

/-- The precondition at an index: the absolute value of the entry is below infinity. -/
theorem pre_apply (r : Fin 16384) (k : Fin 4096) : Cert.Pre_finite.fn (F := Ideal) P A B D (ix2 r k)
    = BitVec.ofBool (decide (max (P (ix2 r ⟨4096 + k.val, by omega⟩)) (-(P (ix2 r ⟨4096 + k.val, by omega⟩))) < Ideal.ofBits .f32 2139095040#32)) := by
  unfold Cert.Pre_finite.fn
  pointwise
  rfl

/-- An entry whose absolute value is below infinity is neither of the infinities. -/
theorem finite_of_pre (h : Cert.Pre_finite.fn (F := Ideal) P A B D = fun _ => 1#1) : Finite P := by
  intro r c hl hu
  have k := pre_apply (P := P) (A := A) (B := B) (D := D) r ⟨c.val - 4096, by omega⟩
  have ec : (⟨4096 + (c.val - 4096), by omega⟩ : Fin 12288) = c := Fin.ext (by show 4096 + (c.val - 4096) = c.val; omega)
  rw [h, highest_val, ec] at k
  have hlt : max (P (ix2 r c)) (-(P (ix2 r c))) < (⊤ : EReal) := by
    by_contra hn
    rw [decide_eq_false hn] at k
    exact absurd (show (1#1 : BitVec 1) = BitVec.ofBool false from k) (by decide)
  refine ⟨fun e => ?_, fun e => ?_⟩
  · rw [e] at hlt
    simp at hlt
  · rw [e] at hlt
    simp at hlt

end

theorem algebraic : Cert.algebraic_Kernel3Ideal_Reference3Ideal_pre_finite := by
  intro m ρ m' ρ' hpre hagree
  have hP : ∀ c, Finite (proj m c) := fun c => finite_of_pre (hpre c)
  refine ⟨_, (θ_run Cert.Kernel3Ideal.defs _ _).mono (fun _ h c => ⟨(h c).1.trans (final14 m c (hP c)), (h c).2⟩)
    (named m ρ), ?_⟩
  refine (θ_run Cert.Reference3Ideal.defs _ _).mono (fun _ h c => ⟨(h c).1.trans ?_, (h c).2⟩)
    (Cert.Reference3Ideal.Value.run (F := Ideal) m' ρ')
  refine (Cert.Reference3Ideal.Read.val_main_v138_eq _).trans ?_
  exact (congrArg (Cert.Reference3Ideal.Read.val_main_v138 (F := Ideal)) (hagree c).1).trans (Ref.reference_eq (hP c))

end Cert.Mixers

end
-- ==== Proof.lean ====
/- The claim of this directory, put together from the statements proven about each call. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite
public import proofs.«01_k».proof.Proof.InProj.Claims
public import proofs.«01_k».proof.Proof.OutProj.Claims
public import proofs.«01_k».proof.Proof.Mixers.Claims

@[expose] public section

noncomputable section

namespace Cert.Proof

theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts, Cert.Pre_finite.Gen.facts,
   Cert.InProj.frame_kernel, Cert.InProj.frame_ideal, Cert.InProj.frame_reference,
   Cert.OutProj.frame_kernel, Cert.OutProj.frame_ideal, Cert.OutProj.frame_reference,
   Cert.Mixers.frame_kernel, Cert.Mixers.frame_ideal, Cert.Mixers.frame_ideal_finite, Cert.Mixers.frame_reference,
   Cert.Mixers.frame_reference_finite,
   Cert.InProj.preserves, Cert.InProj.algebraic, Cert.OutProj.preserves, Cert.OutProj.algebraic,
   Cert.Mixers.preserves, Cert.Mixers.algebraic⟩

end Cert.Proof

end
